-- ==== Defs.lean ====
def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_OutFinal (m : (ℓ : Loc Cert.OutFinal.nD Cert.OutFinal.τ Cert.OutFinal.sig) → Buf (Elt Bits) ℓ) : Prop :=
  True

def Pre_OutFinalIdeal (m : (ℓ : Loc Cert.OutFinalIdeal.nD Cert.OutFinalIdeal.τ Cert.OutFinalIdeal.sig) → Buf (Elt Ideal) ℓ) : Prop :=
  True

def Pre_OutFinalRefIdeal (m : (ℓ : Loc Cert.OutFinalRefIdeal.nD Cert.OutFinalRefIdeal.τ Cert.OutFinalRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7))
      ∧ r.2.sem = fun _ => 0)

def quiescent_OutFinal [hOutFinal : Cert.OutFinal.Facts] : Prop :=
  ∀ (m : (ℓ : Loc Cert.OutFinal.nD Cert.OutFinal.τ Cert.OutFinal.sig) → Buf (Elt Bits) ℓ) (g : Dev Cert.OutFinal.nD → PrngReg), Pre_OutFinal m →
    θ_run (Cert.OutFinal.defs (F := Bits)) (onTc (τ := Cert.OutFinal.τ) (Cert.OutFinal.main (F := Bits))) ⟨m, fun _ => 0, g⟩ (fun r => (∀ c : Dev Cert.OutFinal.nD,
      r.2.mem ((c.tc : Thread Cert.OutFinal.nD Cert.OutFinal.τ).loc Cert.OutFinal.main_arg0) = m ((c.tc : Thread Cert.OutFinal.nD Cert.OutFinal.τ).loc Cert.OutFinal.main_arg0)
      ∧ r.2.mem ((c.tc : Thread Cert.OutFinal.nD Cert.OutFinal.τ).loc Cert.OutFinal.main_arg1) = m ((c.tc : Thread Cert.OutFinal.nD Cert.OutFinal.τ).loc Cert.OutFinal.main_arg1)
      ∧ r.2.mem ((c.tc : Thread Cert.OutFinal.nD Cert.OutFinal.τ).loc Cert.OutFinal.main_arg2) = m ((c.tc : Thread Cert.OutFinal.nD Cert.OutFinal.τ).loc Cert.OutFinal.main_arg2)
      ∧ r.2.mem ((c.tc : Thread Cert.OutFinal.nD Cert.OutFinal.τ).loc Cert.OutFinal.main_arg3) = m ((c.tc : Thread Cert.OutFinal.nD Cert.OutFinal.τ).loc Cert.OutFinal.main_arg3)
      ∧ r.2.mem ((c.tc : Thread Cert.OutFinal.nD Cert.OutFinal.τ).loc Cert.OutFinal.main_arg4) = m ((c.tc : Thread Cert.OutFinal.nD Cert.OutFinal.τ).loc Cert.OutFinal.main_arg4)
      ∧ r.2.mem ((c.tc : Thread Cert.OutFinal.nD Cert.OutFinal.τ).loc Cert.OutFinal.main_arg5) = m ((c.tc : Thread Cert.OutFinal.nD Cert.OutFinal.τ).loc Cert.OutFinal.main_arg5)
      ∧ r.2.mem ((c.tc : Thread Cert.OutFinal.nD Cert.OutFinal.τ).loc Cert.OutFinal.main_arg6) = m ((c.tc : Thread Cert.OutFinal.nD Cert.OutFinal.τ).loc Cert.OutFinal.main_arg6)
      ∧ r.2.mem ((c.tc : Thread Cert.OutFinal.nD Cert.OutFinal.τ).loc Cert.OutFinal.main_arg7) = m ((c.tc : Thread Cert.OutFinal.nD Cert.OutFinal.τ).loc Cert.OutFinal.main_arg7))
      ∧ r.2.sem = fun _ => 0)

def quiescent_OutFinalIdeal [hOutFinalIdeal : Cert.OutFinalIdeal.Facts] : Prop :=
  ∀ (m : (ℓ : Loc Cert.OutFinalIdeal.nD Cert.OutFinalIdeal.τ Cert.OutFinalIdeal.sig) → Buf (Elt Ideal) ℓ) (g : Dev Cert.OutFinalIdeal.nD → PrngReg), Pre_OutFinalIdeal m →
    θ_run (Cert.OutFinalIdeal.defs (F := Ideal)) (onTc (τ := Cert.OutFinalIdeal.τ) (Cert.OutFinalIdeal.main (F := Ideal))) ⟨m, fun _ => 0, g⟩ (fun r => (∀ c : Dev Cert.OutFinalIdeal.nD,
      r.2.mem ((c.tc : Thread Cert.OutFinalIdeal.nD Cert.OutFinalIdeal.τ).loc Cert.OutFinalIdeal.main_arg0) = m ((c.tc : Thread Cert.OutFinalIdeal.nD Cert.OutFinalIdeal.τ).loc Cert.OutFinalIdeal.main_arg0)
      ∧ r.2.mem ((c.tc : Thread Cert.OutFinalIdeal.nD Cert.OutFinalIdeal.τ).loc Cert.OutFinalIdeal.main_arg1) = m ((c.tc : Thread Cert.OutFinalIdeal.nD Cert.OutFinalIdeal.τ).loc Cert.OutFinalIdeal.main_arg1)
      ∧ r.2.mem ((c.tc : Thread Cert.OutFinalIdeal.nD Cert.OutFinalIdeal.τ).loc Cert.OutFinalIdeal.main_arg2) = m ((c.tc : Thread Cert.OutFinalIdeal.nD Cert.OutFinalIdeal.τ).loc Cert.OutFinalIdeal.main_arg2)
      ∧ r.2.mem ((c.tc : Thread Cert.OutFinalIdeal.nD Cert.OutFinalIdeal.τ).loc Cert.OutFinalIdeal.main_arg3) = m ((c.tc : Thread Cert.OutFinalIdeal.nD Cert.OutFinalIdeal.τ).loc Cert.OutFinalIdeal.main_arg3)
      ∧ r.2.mem ((c.tc : Thread Cert.OutFinalIdeal.nD Cert.OutFinalIdeal.τ).loc Cert.OutFinalIdeal.main_arg4) = m ((c.tc : Thread Cert.OutFinalIdeal.nD Cert.OutFinalIdeal.τ).loc Cert.OutFinalIdeal.main_arg4)
      ∧ r.2.mem ((c.tc : Thread Cert.OutFinalIdeal.nD Cert.OutFinalIdeal.τ).loc Cert.OutFinalIdeal.main_arg5) = m ((c.tc : Thread Cert.OutFinalIdeal.nD Cert.OutFinalIdeal.τ).loc Cert.OutFinalIdeal.main_arg5)
      ∧ r.2.mem ((c.tc : Thread Cert.OutFinalIdeal.nD Cert.OutFinalIdeal.τ).loc Cert.OutFinalIdeal.main_arg6) = m ((c.tc : Thread Cert.OutFinalIdeal.nD Cert.OutFinalIdeal.τ).loc Cert.OutFinalIdeal.main_arg6)
      ∧ r.2.mem ((c.tc : Thread Cert.OutFinalIdeal.nD Cert.OutFinalIdeal.τ).loc Cert.OutFinalIdeal.main_arg7) = m ((c.tc : Thread Cert.OutFinalIdeal.nD Cert.OutFinalIdeal.τ).loc Cert.OutFinalIdeal.main_arg7))
      ∧ r.2.sem = fun _ => 0)

def quiescent_OutFinalRefIdeal [hOutFinalRefIdeal : Cert.OutFinalRefIdeal.Facts] : Prop :=
  ∀ (m : (ℓ : Loc Cert.OutFinalRefIdeal.nD Cert.OutFinalRefIdeal.τ Cert.OutFinalRefIdeal.sig) → Buf (Elt Ideal) ℓ) (g : Dev Cert.OutFinalRefIdeal.nD → PrngReg), Pre_OutFinalRefIdeal m →
    θ_run (Cert.OutFinalRefIdeal.defs (F := Ideal)) (onTc (τ := Cert.OutFinalRefIdeal.τ) (Cert.OutFinalRefIdeal.main (F := Ideal))) ⟨m, fun _ => 0, g⟩ (fun r => (∀ c : Dev Cert.OutFinalRefIdeal.nD,
      r.2.mem ((c.tc : Thread Cert.OutFinalRefIdeal.nD Cert.OutFinalRefIdeal.τ).loc Cert.OutFinalRefIdeal.main_arg0) = m ((c.tc : Thread Cert.OutFinalRefIdeal.nD Cert.OutFinalRefIdeal.τ).loc Cert.OutFinalRefIdeal.main_arg0)
      ∧ r.2.mem ((c.tc : Thread Cert.OutFinalRefIdeal.nD Cert.OutFinalRefIdeal.τ).loc Cert.OutFinalRefIdeal.main_arg1) = m ((c.tc : Thread Cert.OutFinalRefIdeal.nD Cert.OutFinalRefIdeal.τ).loc Cert.OutFinalRefIdeal.main_arg1)
      ∧ r.2.mem ((c.tc : Thread Cert.OutFinalRefIdeal.nD Cert.OutFinalRefIdeal.τ).loc Cert.OutFinalRefIdeal.main_arg2) = m ((c.tc : Thread Cert.OutFinalRefIdeal.nD Cert.OutFinalRefIdeal.τ).loc Cert.OutFinalRefIdeal.main_arg2)
      ∧ r.2.mem ((c.tc : Thread Cert.OutFinalRefIdeal.nD Cert.OutFinalRefIdeal.τ).loc Cert.OutFinalRefIdeal.main_arg3) = m ((c.tc : Thread Cert.OutFinalRefIdeal.nD Cert.OutFinalRefIdeal.τ).loc Cert.OutFinalRefIdeal.main_arg3)
      ∧ r.2.mem ((c.tc : Thread Cert.OutFinalRefIdeal.nD Cert.OutFinalRefIdeal.τ).loc Cert.OutFinalRefIdeal.main_arg4) = m ((c.tc : Thread Cert.OutFinalRefIdeal.nD Cert.OutFinalRefIdeal.τ).loc Cert.OutFinalRefIdeal.main_arg4)
      ∧ r.2.mem ((c.tc : Thread Cert.OutFinalRefIdeal.nD Cert.OutFinalRefIdeal.τ).loc Cert.OutFinalRefIdeal.main_arg5) = m ((c.tc : Thread Cert.OutFinalRefIdeal.nD Cert.OutFinalRefIdeal.τ).loc Cert.OutFinalRefIdeal.main_arg5)
      ∧ r.2.mem ((c.tc : Thread Cert.OutFinalRefIdeal.nD Cert.OutFinalRefIdeal.τ).loc Cert.OutFinalRefIdeal.main_arg6) = m ((c.tc : Thread Cert.OutFinalRefIdeal.nD Cert.OutFinalRefIdeal.τ).loc Cert.OutFinalRefIdeal.main_arg6)
      ∧ r.2.mem ((c.tc : Thread Cert.OutFinalRefIdeal.nD Cert.OutFinalRefIdeal.τ).loc Cert.OutFinalRefIdeal.main_arg7) = m ((c.tc : Thread Cert.OutFinalRefIdeal.nD Cert.OutFinalRefIdeal.τ).loc Cert.OutFinalRefIdeal.main_arg7))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7)
      ∧ r.2.mem ((c.tc : Thread Cert.OutEven.nD Cert.OutEven.τ).loc Cert.OutEven.main_arg8) = m ((c.tc : Thread Cert.OutEven.nD Cert.OutEven.τ).loc Cert.OutEven.main_arg8))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
      ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5)
      ∧ r.2.mem ((c.tc : Thread Cert.OutEvenRefIdeal.nD Cert.OutEvenRefIdeal.τ).loc Cert.OutEvenRefIdeal.main_arg6) = m ((c.tc : Thread Cert.OutEvenRefIdeal.nD Cert.OutEvenRefIdeal.τ).loc Cert.OutEvenRefIdeal.main_arg6)
      ∧ r.2.mem ((c.tc : Thread Cert.OutEvenRefIdeal.nD Cert.OutEvenRefIdeal.τ).loc Cert.OutEvenRefIdeal.main_arg7) = m ((c.tc : Thread Cert.OutEvenRefIdeal.nD Cert.OutEvenRefIdeal.τ).loc Cert.OutEvenRefIdeal.main_arg7)
      ∧ r.2.mem ((c.tc : Thread Cert.OutEvenRefIdeal.nD Cert.OutEvenRefIdeal.τ).loc Cert.OutEvenRefIdeal.main_arg8) = m ((c.tc : Thread Cert.OutEvenRefIdeal.nD Cert.OutEvenRefIdeal.τ).loc Cert.OutEvenRefIdeal.main_arg8))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5)
      ∧ r.2.mem ((c.tc : Thread Cert.InEven.nD Cert.InEven.τ).loc Cert.InEven.main_arg6) = m ((c.tc : Thread Cert.InEven.nD Cert.InEven.τ).loc Cert.InEven.main_arg6))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
      ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5)
      ∧ r.2.mem ((c.tc : Thread Cert.InEvenRefIdeal.nD Cert.InEvenRefIdeal.τ).loc Cert.InEvenRefIdeal.main_arg6) = m ((c.tc : Thread Cert.InEvenRefIdeal.nD Cert.InEvenRefIdeal.τ).loc Cert.InEvenRefIdeal.main_arg6))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)) →
    ∃ (v0 : (c : Dev Cert.RglruIdeal.nD) → Buf (Elt Ideal) ((c.tc : Thread Cert.RglruIdeal.nD Cert.RglruIdeal.τ).loc Cert.RglruIdeal.main_v13)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v13) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v90) = v0 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7))

def preserves_OutFinal_OutFinalIdeal : Prop :=
  True

def algebraic_OutFinalIdeal_OutFinalRefIdeal [hOutFinalIdeal : Cert.OutFinalIdeal.Facts] [hOutFinalRefIdeal : Cert.OutFinalRefIdeal.Facts] : Prop :=
  ∀ (m : (ℓ : Loc Cert.OutFinalIdeal.nD Cert.OutFinalIdeal.τ Cert.OutFinalIdeal.sig) → Buf (Elt Ideal) ℓ) (g : Dev Cert.OutFinalIdeal.nD → PrngReg)
    (m' : (ℓ : Loc Cert.OutFinalRefIdeal.nD Cert.OutFinalRefIdeal.τ Cert.OutFinalRefIdeal.sig) → Buf (Elt Ideal) ℓ) (g' : Dev Cert.OutFinalRefIdeal.nD → PrngReg), Pre_OutFinalIdeal m →
    (∀ c : Dev Cert.OutFinalIdeal.nD,
      m' ((c.tc : Thread Cert.OutFinalRefIdeal.nD Cert.OutFinalRefIdeal.τ).loc Cert.OutFinalRefIdeal.main_arg0) = m ((c.tc : Thread Cert.OutFinalIdeal.nD Cert.OutFinalIdeal.τ).loc Cert.OutFinalIdeal.main_arg0)
      ∧ m' ((c.tc : Thread Cert.OutFinalRefIdeal.nD Cert.OutFinalRefIdeal.τ).loc Cert.OutFinalRefIdeal.main_arg1) = m ((c.tc : Thread Cert.OutFinalIdeal.nD Cert.OutFinalIdeal.τ).loc Cert.OutFinalIdeal.main_arg1)
      ∧ m' ((c.tc : Thread Cert.OutFinalRefIdeal.nD Cert.OutFinalRefIdeal.τ).loc Cert.OutFinalRefIdeal.main_arg2) = m ((c.tc : Thread Cert.OutFinalIdeal.nD Cert.OutFinalIdeal.τ).loc Cert.OutFinalIdeal.main_arg2)
      ∧ m' ((c.tc : Thread Cert.OutFinalRefIdeal.nD Cert.OutFinalRefIdeal.τ).loc Cert.OutFinalRefIdeal.main_arg3) = m ((c.tc : Thread Cert.OutFinalIdeal.nD Cert.OutFinalIdeal.τ).loc Cert.OutFinalIdeal.main_arg3)
      ∧ m' ((c.tc : Thread Cert.OutFinalRefIdeal.nD Cert.OutFinalRefIdeal.τ).loc Cert.OutFinalRefIdeal.main_arg4) = m ((c.tc : Thread Cert.OutFinalIdeal.nD Cert.OutFinalIdeal.τ).loc Cert.OutFinalIdeal.main_arg4)
      ∧ m' ((c.tc : Thread Cert.OutFinalRefIdeal.nD Cert.OutFinalRefIdeal.τ).loc Cert.OutFinalRefIdeal.main_arg5) = m ((c.tc : Thread Cert.OutFinalIdeal.nD Cert.OutFinalIdeal.τ).loc Cert.OutFinalIdeal.main_arg5)
      ∧ m' ((c.tc : Thread Cert.OutFinalRefIdeal.nD Cert.OutFinalRefIdeal.τ).loc Cert.OutFinalRefIdeal.main_arg6) = m ((c.tc : Thread Cert.OutFinalIdeal.nD Cert.OutFinalIdeal.τ).loc Cert.OutFinalIdeal.main_arg6)
      ∧ m' ((c.tc : Thread Cert.OutFinalRefIdeal.nD Cert.OutFinalRefIdeal.τ).loc Cert.OutFinalRefIdeal.main_arg7) = m ((c.tc : Thread Cert.OutFinalIdeal.nD Cert.OutFinalIdeal.τ).loc Cert.OutFinalIdeal.main_arg7)) →
    ∃ (v0 : (c : Dev Cert.OutFinalIdeal.nD) → Buf (Elt Ideal) ((c.tc : Thread Cert.OutFinalIdeal.nD Cert.OutFinalIdeal.τ).loc Cert.OutFinalIdeal.main_v6)),
      θ_run (Cert.OutFinalIdeal.defs (F := Ideal)) (onTc (τ := Cert.OutFinalIdeal.τ) (Cert.OutFinalIdeal.main (F := Ideal))) ⟨m, fun _ => 0, g⟩ (fun r => ∀ c : Dev Cert.OutFinalIdeal.nD,
          r.2.mem ((c.tc : Thread Cert.OutFinalIdeal.nD Cert.OutFinalIdeal.τ).loc Cert.OutFinalIdeal.main_v6) = v0 c
          ∧ r.2.mem ((c.tc : Thread Cert.OutFinalIdeal.nD Cert.OutFinalIdeal.τ).loc Cert.OutFinalIdeal.main_arg0) = m ((c.tc : Thread Cert.OutFinalIdeal.nD Cert.OutFinalIdeal.τ).loc Cert.OutFinalIdeal.main_arg0)
          ∧ r.2.mem ((c.tc : Thread Cert.OutFinalIdeal.nD Cert.OutFinalIdeal.τ).loc Cert.OutFinalIdeal.main_arg1) = m ((c.tc : Thread Cert.OutFinalIdeal.nD Cert.OutFinalIdeal.τ).loc Cert.OutFinalIdeal.main_arg1)
          ∧ r.2.mem ((c.tc : Thread Cert.OutFinalIdeal.nD Cert.OutFinalIdeal.τ).loc Cert.OutFinalIdeal.main_arg2) = m ((c.tc : Thread Cert.OutFinalIdeal.nD Cert.OutFinalIdeal.τ).loc Cert.OutFinalIdeal.main_arg2)
          ∧ r.2.mem ((c.tc : Thread Cert.OutFinalIdeal.nD Cert.OutFinalIdeal.τ).loc Cert.OutFinalIdeal.main_arg3) = m ((c.tc : Thread Cert.OutFinalIdeal.nD Cert.OutFinalIdeal.τ).loc Cert.OutFinalIdeal.main_arg3)
          ∧ r.2.mem ((c.tc : Thread Cert.OutFinalIdeal.nD Cert.OutFinalIdeal.τ).loc Cert.OutFinalIdeal.main_arg4) = m ((c.tc : Thread Cert.OutFinalIdeal.nD Cert.OutFinalIdeal.τ).loc Cert.OutFinalIdeal.main_arg4)
          ∧ r.2.mem ((c.tc : Thread Cert.OutFinalIdeal.nD Cert.OutFinalIdeal.τ).loc Cert.OutFinalIdeal.main_arg5) = m ((c.tc : Thread Cert.OutFinalIdeal.nD Cert.OutFinalIdeal.τ).loc Cert.OutFinalIdeal.main_arg5)
          ∧ r.2.mem ((c.tc : Thread Cert.OutFinalIdeal.nD Cert.OutFinalIdeal.τ).loc Cert.OutFinalIdeal.main_arg6) = m ((c.tc : Thread Cert.OutFinalIdeal.nD Cert.OutFinalIdeal.τ).loc Cert.OutFinalIdeal.main_arg6)
          ∧ r.2.mem ((c.tc : Thread Cert.OutFinalIdeal.nD Cert.OutFinalIdeal.τ).loc Cert.OutFinalIdeal.main_arg7) = m ((c.tc : Thread Cert.OutFinalIdeal.nD Cert.OutFinalIdeal.τ).loc Cert.OutFinalIdeal.main_arg7))
      ∧ θ_run (Cert.OutFinalRefIdeal.defs (F := Ideal)) (onTc (τ := Cert.OutFinalRefIdeal.τ) (Cert.OutFinalRefIdeal.main (F := Ideal))) ⟨m', fun _ => 0, g'⟩ (fun r => ∀ c : Dev Cert.OutFinalRefIdeal.nD,
          r.2.mem ((c.tc : Thread Cert.OutFinalRefIdeal.nD Cert.OutFinalRefIdeal.τ).loc Cert.OutFinalRefIdeal.main_v51) = v0 c
          ∧ r.2.mem ((c.tc : Thread Cert.OutFinalRefIdeal.nD Cert.OutFinalRefIdeal.τ).loc Cert.OutFinalRefIdeal.main_arg0) = m' ((c.tc : Thread Cert.OutFinalRefIdeal.nD Cert.OutFinalRefIdeal.τ).loc Cert.OutFinalRefIdeal.main_arg0)
          ∧ r.2.mem ((c.tc : Thread Cert.OutFinalRefIdeal.nD Cert.OutFinalRefIdeal.τ).loc Cert.OutFinalRefIdeal.main_arg1) = m' ((c.tc : Thread Cert.OutFinalRefIdeal.nD Cert.OutFinalRefIdeal.τ).loc Cert.OutFinalRefIdeal.main_arg1)
          ∧ r.2.mem ((c.tc : Thread Cert.OutFinalRefIdeal.nD Cert.OutFinalRefIdeal.τ).loc Cert.OutFinalRefIdeal.main_arg2) = m' ((c.tc : Thread Cert.OutFinalRefIdeal.nD Cert.OutFinalRefIdeal.τ).loc Cert.OutFinalRefIdeal.main_arg2)
          ∧ r.2.mem ((c.tc : Thread Cert.OutFinalRefIdeal.nD Cert.OutFinalRefIdeal.τ).loc Cert.OutFinalRefIdeal.main_arg3) = m' ((c.tc : Thread Cert.OutFinalRefIdeal.nD Cert.OutFinalRefIdeal.τ).loc Cert.OutFinalRefIdeal.main_arg3)
          ∧ r.2.mem ((c.tc : Thread Cert.OutFinalRefIdeal.nD Cert.OutFinalRefIdeal.τ).loc Cert.OutFinalRefIdeal.main_arg4) = m' ((c.tc : Thread Cert.OutFinalRefIdeal.nD Cert.OutFinalRefIdeal.τ).loc Cert.OutFinalRefIdeal.main_arg4)
          ∧ r.2.mem ((c.tc : Thread Cert.OutFinalRefIdeal.nD Cert.OutFinalRefIdeal.τ).loc Cert.OutFinalRefIdeal.main_arg5) = m' ((c.tc : Thread Cert.OutFinalRefIdeal.nD Cert.OutFinalRefIdeal.τ).loc Cert.OutFinalRefIdeal.main_arg5)
          ∧ r.2.mem ((c.tc : Thread Cert.OutFinalRefIdeal.nD Cert.OutFinalRefIdeal.τ).loc Cert.OutFinalRefIdeal.main_arg6) = m' ((c.tc : Thread Cert.OutFinalRefIdeal.nD Cert.OutFinalRefIdeal.τ).loc Cert.OutFinalRefIdeal.main_arg6)
          ∧ r.2.mem ((c.tc : Thread Cert.OutFinalRefIdeal.nD Cert.OutFinalRefIdeal.τ).loc Cert.OutFinalRefIdeal.main_arg7) = m' ((c.tc : Thread Cert.OutFinalRefIdeal.nD Cert.OutFinalRefIdeal.τ).loc Cert.OutFinalRefIdeal.main_arg7))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)
      ∧ m' ((c.tc : Thread Cert.OutEvenRefIdeal.nD Cert.OutEvenRefIdeal.τ).loc Cert.OutEvenRefIdeal.main_arg6) = m ((c.tc : Thread Cert.OutEvenIdeal.nD Cert.OutEvenIdeal.τ).loc Cert.OutEvenIdeal.main_arg6)
      ∧ m' ((c.tc : Thread Cert.OutEvenRefIdeal.nD Cert.OutEvenRefIdeal.τ).loc Cert.OutEvenRefIdeal.main_arg7) = m ((c.tc : Thread Cert.OutEvenIdeal.nD Cert.OutEvenIdeal.τ).loc Cert.OutEvenIdeal.main_arg7)
      ∧ m' ((c.tc : Thread Cert.OutEvenRefIdeal.nD Cert.OutEvenRefIdeal.τ).loc Cert.OutEvenRefIdeal.main_arg8) = m ((c.tc : Thread Cert.OutEvenIdeal.nD Cert.OutEvenIdeal.τ).loc Cert.OutEvenIdeal.main_arg8)) →
    ∃ (v0 : (c : Dev Cert.OutEvenIdeal.nD) → Buf (Elt Ideal) ((c.tc : Thread Cert.OutEvenIdeal.nD Cert.OutEvenIdeal.τ).loc Cert.OutEvenIdeal.main_v8_0)) (v1 : (c : Dev Cert.OutEvenIdeal.nD) → Buf (Elt Ideal) ((c.tc : Thread Cert.OutEvenIdeal.nD Cert.OutEvenIdeal.τ).loc Cert.OutEvenIdeal.main_v8_1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v8_0) = v0 c
          ∧ r.2.mem ((c.tc : Thread Cert.OutEvenIdeal.nD Cert.OutEvenIdeal.τ).loc Cert.OutEvenIdeal.main_v8_1) = v1 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
          ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v40) = v0 c
          ∧ r.2.mem ((c.tc : Thread Cert.OutEvenRefIdeal.nD Cert.OutEvenRefIdeal.τ).loc Cert.OutEvenRefIdeal.main_v55) = v1 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5)
          ∧ r.2.mem ((c.tc : Thread Cert.OutEvenRefIdeal.nD Cert.OutEvenRefIdeal.τ).loc Cert.OutEvenRefIdeal.main_arg6) = m' ((c.tc : Thread Cert.OutEvenRefIdeal.nD Cert.OutEvenRefIdeal.τ).loc Cert.OutEvenRefIdeal.main_arg6)
          ∧ r.2.mem ((c.tc : Thread Cert.OutEvenRefIdeal.nD Cert.OutEvenRefIdeal.τ).loc Cert.OutEvenRefIdeal.main_arg7) = m' ((c.tc : Thread Cert.OutEvenRefIdeal.nD Cert.OutEvenRefIdeal.τ).loc Cert.OutEvenRefIdeal.main_arg7)
          ∧ r.2.mem ((c.tc : Thread Cert.OutEvenRefIdeal.nD Cert.OutEvenRefIdeal.τ).loc Cert.OutEvenRefIdeal.main_arg8) = m' ((c.tc : Thread Cert.OutEvenRefIdeal.nD Cert.OutEvenRefIdeal.τ).loc Cert.OutEvenRefIdeal.main_arg8))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)
      ∧ m' ((c.tc : Thread Cert.InEvenRefIdeal.nD Cert.InEvenRefIdeal.τ).loc Cert.InEvenRefIdeal.main_arg6) = m ((c.tc : Thread Cert.InEvenIdeal.nD Cert.InEvenIdeal.τ).loc Cert.InEvenIdeal.main_arg6)) →
    ∃ (v0 : (c : Dev Cert.InEvenIdeal.nD) → Buf (Elt Ideal) ((c.tc : Thread Cert.InEvenIdeal.nD Cert.InEvenIdeal.τ).loc Cert.InEvenIdeal.main_v8_0)) (v1 : (c : Dev Cert.InEvenIdeal.nD) → Buf (Elt Ideal) ((c.tc : Thread Cert.InEvenIdeal.nD Cert.InEvenIdeal.τ).loc Cert.InEvenIdeal.main_v8_1)) (v2 : (c : Dev Cert.InEvenIdeal.nD) → Buf (Elt Ideal) ((c.tc : Thread Cert.InEvenIdeal.nD Cert.InEvenIdeal.τ).loc Cert.InEvenIdeal.main_v8_2)) (v3 : (c : Dev Cert.InEvenIdeal.nD) → Buf (Elt Ideal) ((c.tc : Thread Cert.InEvenIdeal.nD Cert.InEvenIdeal.τ).loc Cert.InEvenIdeal.main_v8_3)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v8_0) = v0 c
          ∧ r.2.mem ((c.tc : Thread Cert.InEvenIdeal.nD Cert.InEvenIdeal.τ).loc Cert.InEvenIdeal.main_v8_1) = v1 c
          ∧ r.2.mem ((c.tc : Thread Cert.InEvenIdeal.nD Cert.InEvenIdeal.τ).loc Cert.InEvenIdeal.main_v8_2) = v2 c
          ∧ r.2.mem ((c.tc : Thread Cert.InEvenIdeal.nD Cert.InEvenIdeal.τ).loc Cert.InEvenIdeal.main_v8_3) = v3 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
          ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v54) = v0 c
          ∧ r.2.mem ((c.tc : Thread Cert.InEvenRefIdeal.nD Cert.InEvenRefIdeal.τ).loc Cert.InEvenRefIdeal.main_v56) = v1 c
          ∧ r.2.mem ((c.tc : Thread Cert.InEvenRefIdeal.nD Cert.InEvenRefIdeal.τ).loc Cert.InEvenRefIdeal.main_v58) = v2 c
          ∧ r.2.mem ((c.tc : Thread Cert.InEvenRefIdeal.nD Cert.InEvenRefIdeal.τ).loc Cert.InEvenRefIdeal.main_v60) = v3 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5)
          ∧ r.2.mem ((c.tc : Thread Cert.InEvenRefIdeal.nD Cert.InEvenRefIdeal.τ).loc Cert.InEvenRefIdeal.main_arg6) = m' ((c.tc : Thread Cert.InEvenRefIdeal.nD Cert.InEvenRefIdeal.τ).loc Cert.InEvenRefIdeal.main_arg6))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v19_0)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v19_0) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v3) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def Claim : Prop :=
  ∃ (hRglru : Cert.Rglru.Facts) (hRglruIdeal : Cert.RglruIdeal.Facts) (hRglruRefIdeal : Cert.RglruRefIdeal.Facts) (hOutFinal : Cert.OutFinal.Facts) (hOutFinalIdeal : Cert.OutFinalIdeal.Facts) (hOutFinalRefIdeal : Cert.OutFinalRefIdeal.Facts) (hOutEven : Cert.OutEven.Facts) (hOutEvenIdeal : Cert.OutEvenIdeal.Facts) (hOutEvenRefIdeal : Cert.OutEvenRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts),
    quiescent_Rglru (hRglru := hRglru)
    ∧ quiescent_RglruIdeal (hRglruIdeal := hRglruIdeal)
    ∧ quiescent_RglruRefIdeal (hRglruRefIdeal := hRglruRefIdeal)
    ∧ quiescent_OutFinal (hOutFinal := hOutFinal)
    ∧ quiescent_OutFinalIdeal (hOutFinalIdeal := hOutFinalIdeal)
    ∧ quiescent_OutFinalRefIdeal (hOutFinalRefIdeal := hOutFinalRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ preserves_Rglru_RglruIdeal
    ∧ algebraic_RglruIdeal_RglruRefIdeal (hRglruIdeal := hRglruIdeal) (hRglruRefIdeal := hRglruRefIdeal)
    ∧ preserves_OutFinal_OutFinalIdeal
    ∧ algebraic_OutFinalIdeal_OutFinalRefIdeal (hOutFinalIdeal := hOutFinalIdeal) (hOutFinalRefIdeal := hOutFinalRefIdeal)
    ∧ preserves_OutEven_OutEvenIdeal
    ∧ algebraic_OutEvenIdeal_OutEvenRefIdeal (hOutEvenIdeal := hOutEvenIdeal) (hOutEvenRefIdeal := hOutEvenRefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
-- ==== Rglru.lean ====
abbrev S4x2048x6144 : Shape := ⟨3, ![4, 2048, 6144]⟩
abbrev S1x4x1024 : Shape := ⟨3, ![1, 4, 1024]⟩
abbrev S1x1024 : Shape := ⟨2, ![1, 1024]⟩
abbrev S1x8x128x128 : Shape := ⟨4, ![1, 8, 128, 128]⟩
abbrev S4x1024 : Shape := ⟨2, ![4, 1024]⟩
abbrev S1024 : Shape := ⟨1, ![1024]⟩
abbrev S8x128x128 : Shape := ⟨3, ![8, 128, 128]⟩
abbrev S4x2048x1024 : Shape := ⟨3, ![4, 2048, 1024]⟩
abbrev S1x2048x128 : Shape := ⟨3, ![1, 2048, 128]⟩
abbrev S4x128 : Shape := ⟨2, ![4, 128]⟩
abbrev S1x128 : Shape := ⟨2, ![1, 128]⟩
abbrev S1x128x128 : Shape := ⟨3, ![1, 128, 128]⟩
abbrev S2048x128 : Shape := ⟨2, ![2048, 128]⟩
abbrev S8x256x128 : Shape := ⟨3, ![8, 256, 128]⟩
abbrev S1x2040x128 : Shape := ⟨3, ![1, 2040, 128]⟩
abbrev S2040x128 : Shape := ⟨2, ![2040, 128]⟩
abbrev S1x8x128 : Shape := ⟨3, ![1, 8, 128]⟩
abbrev S8x128 : Shape := ⟨2, ![8, 128]⟩
abbrev S128x128 : Shape := ⟨2, ![128, 128]⟩
abbrev S256x128 : Shape := ⟨2, ![256, 128]⟩
abbrev S1x256x128 : Shape := ⟨3, ![1, 256, 128]⟩

abbrev nBuf : Space → Nat
  | .hbm => 22
  | .vmem => 25
  | .smem => 0
  | _ => 0

abbrev bufTy : (tb : Table) → Fin (tcTables nBuf tb) → BufTy
  | .hbm, ⟨0, _⟩ => ⟨S4x2048x6144, .f32⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x1024, .f32⟩
  | .hbm, ⟨8, _⟩ => ⟨S4x1024, .f32⟩
  | .hbm, ⟨9, _⟩ => ⟨S1024, .f32⟩
  | .hbm, ⟨10, _⟩ => ⟨S8x128x128, .f32⟩
  | .hbm, ⟨11, _⟩ => ⟨S8x128x128, .bf16⟩
  | .hbm, ⟨12, _⟩ => ⟨S1024, .f32⟩
  | .hbm, ⟨13, _⟩ => ⟨S8x128x128, .f32⟩
  | .hbm, ⟨14, _⟩ => ⟨S8x128x128, .bf16⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x2048x128, .bf16⟩
  | .local _ .vmem, ⟨19, _⟩ => ⟨S1x2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S8x256x128, .f32⟩
  | .local _ .vmem, ⟨24, _⟩ => ⟨S8x256x128, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RglruRefIdeal.lean ====
abbrev S4x2048x6144 : Shape := ⟨3, ![4, 2048, 6144]⟩
abbrev S1x4x1024 : Shape := ⟨3, ![1, 4, 1024]⟩
abbrev S1x1024 : Shape := ⟨2, ![1, 1024]⟩
abbrev S1x8x128x128 : Shape := ⟨4, ![1, 8, 128, 128]⟩
abbrev S4x2048x1024 : Shape := ⟨3, ![4, 2048, 1024]⟩
abbrev S_ : Shape := ⟨0, ![]⟩
abbrev S4x2051x1024 : Shape := ⟨3, ![4, 2051, 1024]⟩
abbrev S1024 : Shape := ⟨1, ![1024]⟩
abbrev S4x1024 : Shape := ⟨2, ![4, 1024]⟩
abbrev S1x1x1024 : Shape := ⟨3, ![1, 1, 1024]⟩
abbrev S4x2048x8x128 : Shape := ⟨4, ![4, 2048, 8, 128]⟩
abbrev S8x128x128 : Shape := ⟨3, ![8, 128, 128]⟩
abbrev S8x128x4x2048 : Shape := ⟨4, ![8, 128, 4, 2048]⟩
abbrev S2048x4x1024 : Shape := ⟨3, ![2048, 4, 1024]⟩

abbrev nBuf : Space → Nat
  | .hbm => 145
  | .vmem => 0
  | .smem => 0
  | _ => 0

abbrev hbmTy0_0 (i : Nat) : BufTy := match i % 128 with
  | 0 => ⟨S4x2048x6144, .f32⟩
  | 1 => ⟨S1x4x1024, .f32⟩
  | 2 => ⟨S1x1024, .f32⟩
  | 3 => ⟨S1x8x128x128, .f32⟩
  | 4 => ⟨S1x1024, .f32⟩
  | 5 => ⟨S1x8x128x128, .f32⟩
  | 6 => ⟨S1x1024, .f32⟩
  | 7 => ⟨S1x1024, .f32⟩
  | 8 => ⟨S4x2048x1024, .f32⟩
  | 9 => ⟨S_, .i32⟩
  | 10 => ⟨S_, .f32⟩
  | 11 => ⟨S4x2051x1024, .f32⟩
  | 12 => ⟨S1024, .f32⟩
  | 13 => ⟨S4x2048x1024, .f32⟩
  | 14 => ⟨S4x1024, .f32⟩
  | 15 => ⟨S1x1024, .f32⟩
  | 16 => ⟨S1024, .f32⟩
  | 17 => ⟨S1x1x1024, .f32⟩
  | 18 => ⟨S4x2048x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S4x2048x1024, .f32⟩
  | 24 => ⟨S4x1024, .f32⟩
  | 25 => ⟨S1x1024, .f32⟩
  | 26 => ⟨S1024, .f32⟩
  | 27 => ⟨S1x1x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x1024, .f32⟩
  | 33 => ⟨S1x1024, .f32⟩
  | 34 => ⟨S1024, .f32⟩
  | 35 => ⟨S1x1x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S4x1024, .f32⟩
  | 41 => ⟨S1x1024, .f32⟩
  | 42 => ⟨S1024, .f32⟩
  | 43 => ⟨S1x1x1024, .f32⟩
  | 44 => ⟨S4x2048x1024, .f32⟩
  | 45 => ⟨S4x2048x1024, .f32⟩
  | 46 => ⟨S4x2048x1024, .f32⟩
  | 47 => ⟨S4x2048x8x128, .f32⟩
  | 48 => ⟨S8x128x128, .f32⟩
  | 49 => ⟨S8x128x4x2048, .f32⟩
  | 50 => ⟨S4x2048x8x128, .f32⟩
  | 51 => ⟨S4x2048x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S_, .f32⟩
  | 59 => ⟨S4x2048x1024, .f32⟩
  | 60 => ⟨S4x2048x1024, .f32⟩
  | 61 => ⟨S_, .f32⟩
  | 62 => ⟨S4x2048x1024, .f32⟩
  | 63 => ⟨S4x2048x1024, .f32⟩
  | 64 => ⟨S8x128x128, .f32⟩
  | 65 => ⟨S8x128x4x2048, .f32⟩
  | 66 => ⟨S4x2048x8x128, .f32⟩
  | 67 => ⟨S4x2048x1024, .f32⟩
  | 68 => ⟨S1024, .f32⟩
  | 69 => ⟨S1x1x1024, .f32⟩
  | 70 => ⟨S4x2048x1024, .f32⟩
  | 71 => ⟨S4x2048x1024, .f32⟩
  | 72 => ⟨S4x2048x1024, .f32⟩
  | 73 => ⟨S4x2048x1024, .f32⟩
  | 74 => ⟨S_, .f32⟩
  | 75 => ⟨S4x2048x1024, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048x1024, .f32⟩
  | 82 => ⟨S4x2048x1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S1024, .f32⟩
  | 90 => ⟨S1024, .i1⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1x1x1024, .f32⟩
  | 100 => ⟨S4x2048x1024, .f32⟩
  | 101 => ⟨S4x2048x1024, .f32⟩
  | 102 => ⟨S4x2048x1024, .f32⟩
  | 103 => ⟨S_, .f32⟩
  | 104 => ⟨S4x2048x1024, .f32⟩
  | 105 => ⟨S4x2048x1024, .f32⟩
  | 106 => ⟨S4x2048x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S_, .f32⟩
  | 112 => ⟨S4x1024, .f32⟩
  | 113 => ⟨S2048x4x1024, .f32⟩
  | 114 => ⟨S2048x4x1024, .f32⟩
  | 115 => ⟨S_, .f32⟩
  | 116 => ⟨S2048x4x1024, .f32⟩
  | 117 => ⟨S_, .i32⟩
  | 118 => ⟨S2048x4x1024, .f32⟩
  | 119 => ⟨S2048x4x1024, .f32⟩
  | 120 => ⟨S_, .i32⟩
  | 121 => ⟨S4x1024, .f32⟩
  | 122 => ⟨S2048x4x1024, .f32⟩
  | 123 => ⟨S_, .i32⟩
  | 124 => ⟨S_, .i1⟩
  | 125 => ⟨S_, .i32⟩
  | 126 => ⟨S_, .i32⟩
  | 127 => ⟨S1x4x1024, .f32⟩
  | _ => ⟨S4x2048x6144, .f32⟩

abbrev hbmTy0_1 (i : Nat) : BufTy := match i % 128 with
  | 0 => ⟨S4x1024, .f32⟩
  | 1 => ⟨S_, .i32⟩
  | 2 => ⟨S_, .i32⟩
  | 3 => ⟨S1x4x1024, .f32⟩
  | 4 => ⟨S4x1024, .f32⟩
  | 5 => ⟨S4x1024, .f32⟩
  | 6 => ⟨S4x1024, .f32⟩
  | 7 => ⟨S1x4x1024, .f32⟩
  | 8 => ⟨S_, .i32⟩
  | 9 => ⟨S_, .i32⟩
  | 10 => ⟨S2048x4x1024, .f32⟩
  | 11 => ⟨S_, .i32⟩
  | 12 => ⟨S_, .i32⟩
  | 13 => ⟨S4x2048x1024, .f32⟩
  | 14 => ⟨S4x2048x1024, .f32⟩
  | 15 => ⟨S4x2048x1024, .f32⟩
  | 16 => ⟨S4x2048x1024, .bf16⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_1 : Ref sig .tc := ⟨.hbm, 74, rfl⟩
abbrev main_v62 : Ref sig .tc := ⟨.hbm, 75, rfl⟩
abbrev main_v63 : Ref sig .tc := ⟨.hbm, 76, rfl⟩
abbrev main_cst_2 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_4 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_5 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_6 : Ref sig .tc := ⟨.hbm, 115, rfl⟩
abbrev main_v85 : Ref sig .tc := ⟨.hbm, 116, rfl⟩
abbrev main_c_7 : Ref sig .tc := ⟨.hbm, 117, rfl⟩
abbrev main_v86_0 : Ref sig .tc := ⟨.hbm, 118, rfl⟩
abbrev main_v86_1 : Ref sig .tc := ⟨.hbm, 119, rfl⟩
abbrev main_v86_2 : Ref sig .tc := ⟨.hbm, 120, rfl⟩
abbrev main_v86_3 : Ref sig .tc := ⟨.hbm, 121, rfl⟩
abbrev main_v86_4 : Ref sig .tc := ⟨.hbm, 122, rfl⟩
abbrev main_while0c_c_12 : Ref sig .tc := ⟨.hbm, 123, rfl⟩
abbrev main_while0c_v91 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_call2_v0 : Ref sig .tc := ⟨.hbm, 127, rfl⟩
abbrev main_while0b_v91 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_v0 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_call4_v0 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_v95 : Ref sig .tc := ⟨.hbm, 138, rfl⟩
abbrev main_while0b_c_12 : Ref sig .tc := ⟨.hbm, 139, rfl⟩
abbrev main_while0b_v96 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩

abbrev nD : Nat := 1
abbrev τ : Topo := Topo.v7x

variable {F : FTy → Type} [FloatOps F]

abbrev main_while0_count : Scf.Loop 32 := ⟨0#32, 2048#32, 1#32⟩
-- ==== OutFinal.lean ====
abbrev S8192x2048 : Shape := ⟨2, ![8192, 2048]⟩
abbrev S4x2048x2048 : Shape := ⟨3, ![4, 2048, 2048]⟩
abbrev S2048x2048 : Shape := ⟨2, ![2048, 2048]⟩
abbrev S2x4x2048x256 : Shape := ⟨4, ![2, 4, 2048, 256]⟩
abbrev S2x256x2048 : Shape := ⟨3, ![2, 256, 2048]⟩
abbrev S2x2048 : Shape := ⟨2, ![2, 2048]⟩
abbrev S2x2048x2048 : Shape := ⟨3, ![2, 2048, 2048]⟩
abbrev S2048 : Shape := ⟨1, ![2048]⟩
abbrev S2x8192x256 : Shape := ⟨3, ![2, 8192, 256]⟩
abbrev S1x2048 : Shape := ⟨2, ![1, 2048]⟩
abbrev S512x2048 : Shape := ⟨2, ![512, 2048]⟩
abbrev S1x512x256 : Shape := ⟨3, ![1, 512, 256]⟩
abbrev S1x256x2048 : Shape := ⟨3, ![1, 256, 2048]⟩
abbrev S1x2048x2048 : Shape := ⟨3, ![1, 2048, 2048]⟩
abbrev S256x2048 : Shape := ⟨2, ![256, 2048]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4x2048x2048, .bf16⟩
  | .hbm, ⟨2, _⟩ => ⟨S2048x2048, .bf16⟩
  | .hbm, ⟨3, _⟩ => ⟨S2x4x2048x256, .f32⟩
  | .hbm, ⟨4, _⟩ => ⟨S2x256x2048, .bf16⟩
  | .hbm, ⟨5, _⟩ => ⟨S2x2048, .f32⟩
  | .hbm, ⟨6, _⟩ => ⟨S2x2048x2048, .bf16⟩
  | .hbm, ⟨7, _⟩ => ⟨S2048, .f32⟩
  | .hbm, ⟨8, _⟩ => ⟨S8192x2048, .bf16⟩
  | .hbm, ⟨9, _⟩ => ⟨S2x8192x256, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x512x256, .f32⟩
  | .local _ .vmem, ⟨6, _⟩ => ⟨S1x512x256, .f32⟩
  | .local _ .vmem, ⟨7, _⟩ => ⟨S1x256x2048, .bf16⟩
  | .local _ .vmem, ⟨8, _⟩ => ⟨S1x2048, .f32⟩
  | .local _ .vmem, ⟨9, _⟩ => ⟨S1x2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFinalRefIdeal.lean ====
abbrev S8192x2048 : Shape := ⟨2, ![8192, 2048]⟩
abbrev S4x2048x2048 : Shape := ⟨3, ![4, 2048, 2048]⟩
abbrev S2048x2048 : Shape := ⟨2, ![2048, 2048]⟩
abbrev S2x4x2048x256 : Shape := ⟨4, ![2, 4, 2048, 256]⟩
abbrev S2x256x2048 : Shape := ⟨3, ![2, 256, 2048]⟩
abbrev S2x2048 : Shape := ⟨2, ![2, 2048]⟩
abbrev S2x2048x2048 : Shape := ⟨3, ![2, 2048, 2048]⟩
abbrev S2048 : Shape := ⟨1, ![2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S1x2048 : Shape := ⟨2, ![1, 2048]⟩
abbrev S1x2048x2048 : Shape := ⟨3, ![1, 2048, 2048]⟩
abbrev S8192x256 : Shape := ⟨2, ![8192, 256]⟩
abbrev S_ : Shape := ⟨0, ![]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x2048, .bf16⟩
  | .hbm, ⟨2, _⟩ => ⟨S2048x2048, .bf16⟩
  | .hbm, ⟨3, _⟩ => ⟨S2x4x2048x256, .f32⟩
  | .hbm, ⟨4, _⟩ => ⟨S2x256x2048, .bf16⟩
  | .hbm, ⟨5, _⟩ => ⟨S2x2048, .f32⟩
  | .hbm, ⟨6, _⟩ => ⟨S2x2048x2048, .bf16⟩
  | .hbm, ⟨7, _⟩ => ⟨S2048, .f32⟩
  | .hbm, ⟨8, _⟩ => ⟨S4x2048x2048, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S1x4x2048x256, .f32⟩
  | .hbm, ⟨13, _⟩ => ⟨S4x2048x256, .f32⟩
  | .hbm, ⟨14, _⟩ => ⟨S1x256x2048, .bf16⟩
  | .hbm, ⟨15, _⟩ => ⟨S256x2048, .bf16⟩
  | .hbm, ⟨16, _⟩ => ⟨S1x2048, .f32⟩
  | .hbm, ⟨17, _⟩ => ⟨S2048, .f32⟩
  | .hbm, ⟨18, _⟩ => ⟨S1x2048x2048, .bf16⟩
  | .hbm, ⟨19, _⟩ => ⟨S2048x2048, .bf16⟩
  | .hbm, ⟨20, _⟩ => ⟨S8192x2048, .f32⟩
  | .hbm, ⟨21, _⟩ => ⟨S8192x256, .f32⟩
  | .hbm, ⟨22, _⟩ => ⟨S256x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== OutEven.lean ====
abbrev S8192x2048 : Shape := ⟨2, ![8192, 2048]⟩
abbrev S4x2048x1024 : Shape := ⟨3, ![4, 2048, 1024]⟩
abbrev S2048x2048 : Shape := ⟨2, ![2048, 2048]⟩
abbrev S2x4x2048x256 : Shape := ⟨4, ![2, 4, 2048, 256]⟩
abbrev S2x256x2048 : Shape := ⟨3, ![2, 256, 2048]⟩
abbrev S2x2048 : Shape := ⟨2, ![2, 2048]⟩
abbrev S2x2048x2048 : Shape := ⟨3, ![2, 2048, 2048]⟩
abbrev S1x2048 : Shape := ⟨2, ![1, 2048]⟩
abbrev S8192x1024 : Shape := ⟨2, ![8192, 1024]⟩
abbrev S2x8192x256 : Shape := ⟨3, ![2, 8192, 256]⟩
abbrev S2048 : Shape := ⟨1, ![2048]⟩
abbrev S512x2048 : Shape := ⟨2, ![512, 2048]⟩
abbrev S512x1024 : Shape := ⟨2, ![512, 1024]⟩
abbrev S1024x2048 : Shape := ⟨2, ![1024, 2048]⟩
abbrev S1x512x256 : Shape := ⟨3, ![1, 512, 256]⟩
abbrev S1x256x2048 : Shape := ⟨3, ![1, 256, 2048]⟩
abbrev S1x2048x2048 : Shape := ⟨3, ![1, 2048, 2048]⟩
abbrev S256x1024 : Shape := ⟨2, ![256, 1024]⟩
abbrev S256x2048 : Shape := ⟨2, ![256, 2048]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 19
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S4x2048x1024, .bf16⟩
  | .hbm, ⟨2, _⟩ => ⟨S4x2048x1024, .bf16⟩
  | .hbm, ⟨3, _⟩ => ⟨S2048x2048, .bf16⟩
  | .hbm, ⟨4, _⟩ => ⟨S2x4x2048x256, .f32⟩
  | .hbm, ⟨5, _⟩ => ⟨S2x256x2048, .bf16⟩
  | .hbm, ⟨6, _⟩ => ⟨S2x2048, .f32⟩
  | .hbm, ⟨7, _⟩ => ⟨S2x2048x2048, .bf16⟩
  | .hbm, ⟨8, _⟩ => ⟨S1x2048, .f32⟩
  | .hbm, ⟨9, _⟩ => ⟨S8192x1024, .bf16⟩
  | .hbm, ⟨10, _⟩ => ⟨S8192x1024, .bf16⟩
  | .hbm, ⟨11, _⟩ => ⟨S2x8192x256, .f32⟩
  | .hbm, ⟨12, _⟩ => ⟨S1x2048, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x512x256, .f32⟩
  | .local _ .vmem, ⟨9, _⟩ => ⟨S1x512x256, .f32⟩
  | .local _ .vmem, ⟨10, _⟩ => ⟨S1x256x2048, .bf16⟩
  | .local _ .vmem, ⟨11, _⟩ => ⟨S1x2048, .f32⟩
  | .local _ .vmem, ⟨12, _⟩ => ⟨S1x2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutEvenRefIdeal.lean ====
abbrev S8192x2048 : Shape := ⟨2, ![8192, 2048]⟩
abbrev S4x2048x1024 : Shape := ⟨3, ![4, 2048, 1024]⟩
abbrev S2048x2048 : Shape := ⟨2, ![2048, 2048]⟩
abbrev S2x4x2048x256 : Shape := ⟨4, ![2, 4, 2048, 256]⟩
abbrev S2x256x2048 : Shape := ⟨3, ![2, 256, 2048]⟩
abbrev S2x2048 : Shape := ⟨2, ![2, 2048]⟩
abbrev S2x2048x2048 : Shape := ⟨3, ![2, 2048, 2048]⟩
abbrev S1x2048 : Shape := ⟨2, ![1, 2048]⟩
abbrev S4x2048x2048 : Shape := ⟨3, ![4, 2048, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S2048 : Shape := ⟨1, ![2048]⟩
abbrev S1x2048x2048 : Shape := ⟨3, ![1, 2048, 2048]⟩
abbrev S8192x256 : Shape := ⟨2, ![8192, 256]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x1024, .bf16⟩
  | .hbm, ⟨2, _⟩ => ⟨S4x2048x1024, .bf16⟩
  | .hbm, ⟨3, _⟩ => ⟨S2048x2048, .bf16⟩
  | .hbm, ⟨4, _⟩ => ⟨S2x4x2048x256, .f32⟩
  | .hbm, ⟨5, _⟩ => ⟨S2x256x2048, .bf16⟩
  | .hbm, ⟨6, _⟩ => ⟨S2x2048, .f32⟩
  | .hbm, ⟨7, _⟩ => ⟨S2x2048x2048, .bf16⟩
  | .hbm, ⟨8, _⟩ => ⟨S1x2048, .f32⟩
  | .hbm, ⟨9, _⟩ => ⟨S4x2048x1024, .f32⟩
  | .hbm, ⟨10, _⟩ => ⟨S4x2048x1024, .f32⟩
  | .hbm, ⟨11, _⟩ => ⟨S4x2048x2048, .f32⟩
  | .hbm, ⟨12, _⟩ => ⟨S8192x2048, .f32⟩
  | .hbm, ⟨13, _⟩ => ⟨S2048x2048, .f32⟩
  | .hbm, ⟨14, _⟩ => ⟨S8192x2048, .f32⟩
  | .hbm, ⟨15, _⟩ => ⟨S1x4x2048x256, .f32⟩
  | .hbm, ⟨16, _⟩ => ⟨S4x2048x256, .f32⟩
  | .hbm, ⟨17, _⟩ => ⟨S1x256x2048, .bf16⟩
  | .hbm, ⟨18, _⟩ => ⟨S256x2048, .bf16⟩
  | .hbm, ⟨19, _⟩ => ⟨S1x2048, .f32⟩
  | .hbm, ⟨20, _⟩ => ⟨S2048, .f32⟩
  | .hbm, ⟨21, _⟩ => ⟨S1x2048x2048, .bf16⟩
  | .hbm, ⟨22, _⟩ => ⟨S2048x2048, .bf16⟩
  | .hbm, ⟨23, _⟩ => ⟨S8192x2048, .f32⟩
  | .hbm, ⟨24, _⟩ => ⟨S8192x256, .f32⟩
  | .hbm, ⟨25, _⟩ => ⟨S256x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S2048x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== InEven.lean ====
abbrev S4x2048x2048 : Shape := ⟨3, ![4, 2048, 2048]⟩
abbrev S1x2048 : Shape := ⟨2, ![1, 2048]⟩
abbrev S1x2048x6144 : Shape := ⟨3, ![1, 2048, 6144]⟩
abbrev S2x1024 : Shape := ⟨2, ![2, 1024]⟩
abbrev S1x2048x2048 : Shape := ⟨3, ![1, 2048, 2048]⟩
abbrev S2x256x2048 : Shape := ⟨3, ![2, 256, 2048]⟩
abbrev S8192x2048 : Shape := ⟨2, ![8192, 2048]⟩
abbrev S2048 : Shape := ⟨1, ![2048]⟩
abbrev S2048x6144 : Shape := ⟨2, ![2048, 6144]⟩
abbrev S2048x2048 : Shape := ⟨2, ![2048, 2048]⟩
abbrev S512x2048 : Shape := ⟨2, ![512, 2048]⟩
abbrev S8192x6144 : Shape := ⟨2, ![8192, 6144]⟩
abbrev S1024x2048 : Shape := ⟨2, ![1024, 2048]⟩
abbrev S2048x1536 : Shape := ⟨2, ![2048, 1536]⟩
abbrev S64x2048 : Shape := ⟨2, ![64, 2048]⟩
abbrev S16x2048 : Shape := ⟨2, ![16, 2048]⟩
abbrev S1024x1536 : Shape := ⟨2, ![1024, 1536]⟩
abbrev S1024 : Shape := ⟨1, ![1024]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6144, .f32⟩
  | .hbm, ⟨3, _⟩ => ⟨S2x1024, .f32⟩
  | .hbm, ⟨4, _⟩ => ⟨S1x2048x2048, .f32⟩
  | .hbm, ⟨5, _⟩ => ⟨S2x256x2048, .f32⟩
  | .hbm, ⟨6, _⟩ => ⟨S1x2048x2048, .f32⟩
  | .hbm, ⟨7, _⟩ => ⟨S8192x2048, .f32⟩
  | .hbm, ⟨8, _⟩ => ⟨S2048, .f32⟩
  | .hbm, ⟨9, _⟩ => ⟨S2048x6144, .f32⟩
  | .hbm, ⟨10, _⟩ => ⟨S2048x6144, .bf16⟩
  | .hbm, ⟨11, _⟩ => ⟨S2048x2048, .f32⟩
  | .hbm, ⟨12, _⟩ => ⟨S512x2048, .f32⟩
  | .hbm, ⟨13, _⟩ => ⟨S2048x2048, .f32⟩
  | .hbm, ⟨14, _⟩ => ⟨S1x2048, .f32⟩
  | .hbm, ⟨15, _⟩ => ⟨S8192x6144, .f32⟩
  | .hbm, ⟨16, _⟩ => ⟨S2048x2048, .bf16⟩
  | .hbm, ⟨17, _⟩ => ⟨S512x2048, .bf16⟩
  | .hbm, ⟨18, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S2x1024, .f32⟩
  | .local _ .vmem, ⟨6, _⟩ => ⟨S64x2048, .f32⟩
  | .local _ .vmem, ⟨7, _⟩ => ⟨S64x2048, .f32⟩
  | .local _ .vmem, ⟨8, _⟩ => ⟨S16x2048, .f32⟩
  | .local _ .vmem, ⟨9, _⟩ => ⟨S16x2048, .f32⟩
  | .local _ .vmem, ⟨10, _⟩ => ⟨S64x2048, .f32⟩
  | .local _ .vmem, ⟨11, _⟩ => ⟨S64x2048, .f32⟩
  | .local _ .vmem, ⟨12, _⟩ => ⟨S1024x1536, .f32⟩
  | .local _ .vmem, ⟨13, _⟩ => ⟨S1024x1536, .f32⟩
  | .local _ .vmem, ⟨14, _⟩ => ⟨S64x2048, .bf16⟩
  | .local _ .vmem, ⟨15, _⟩ => ⟨S64x2048, .bf16⟩
  | .local _ .vmem, ⟨16, _⟩ => ⟨S16x2048, .bf16⟩
  | .local _ .vmem, ⟨17, _⟩ => ⟨S16x2048, .bf16⟩
  | .local _ .vmem, ⟨18, _⟩ => ⟨S64x2048, .bf16⟩
  | .local _ .vmem, ⟨19, _⟩ => ⟨S64x2048, .bf16⟩
  | .local _ .vmem, ⟨20, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_15 : BitVec 32 := 0#32
  let v27 : BitVec 1 := Scalar.cmpi .ne v26 c0_i32_15
  v27

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_16 : BitVec 32 := 0#32
  let v30 : BitVec 1 := Scalar.cmpi .ne v29 c0_i32_16
  v30

def k0_cond3 (i : grid0.Coords) : BitVec 1 :=
  let arg1 : BitVec 32 := BitVec.ofNat 32 (i 1).val
  let c2_i32 : BitVec 32 := 2#32
  let v31 : BitVec 1 := Scalar.cmpi .eq arg1 c2_i32
  let v32 : BitVec 32 := Scalar.extui v31
  let c0_i32_17 : BitVec 32 := 0#32
  let v33 : BitVec 1 := Scalar.cmpi .ne v32 c0_i32_17
  v33

def k0_cond4 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InEvenRefIdeal.lean ====
abbrev S4x2048x2048 : Shape := ⟨3, ![4, 2048, 2048]⟩
abbrev S1x2048 : Shape := ⟨2, ![1, 2048]⟩
abbrev S1x2048x6144 : Shape := ⟨3, ![1, 2048, 6144]⟩
abbrev S2x1024 : Shape := ⟨2, ![2, 1024]⟩
abbrev S1x2048x2048 : Shape := ⟨3, ![1, 2048, 2048]⟩
abbrev S2x256x2048 : Shape := ⟨3, ![2, 256, 2048]⟩
abbrev S_ : Shape := ⟨0, ![]⟩
abbrev S1024 : Shape := ⟨1, ![1024]⟩
abbrev S1x1024 : Shape := ⟨2, ![1, 1024]⟩
abbrev S8192x2048 : Shape := ⟨2, ![8192, 2048]⟩
abbrev S2048 : Shape := ⟨1, ![2048]⟩
abbrev S8192 : Shape := ⟨1, ![8192]⟩
abbrev S8192x1 : Shape := ⟨2, ![8192, 1]⟩
abbrev S2048x6144 : Shape := ⟨2, ![2048, 6144]⟩
abbrev S8192x6144 : Shape := ⟨2, ![8192, 6144]⟩
abbrev S8192x1024 : Shape := ⟨2, ![8192, 1024]⟩
abbrev S2048x2048 : Shape := ⟨2, ![2048, 2048]⟩
abbrev S512x2048 : Shape := ⟨2, ![512, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6144, .f32⟩
  | .hbm, ⟨3, _⟩ => ⟨S2x1024, .f32⟩
  | .hbm, ⟨4, _⟩ => ⟨S1x2048x2048, .f32⟩
  | .hbm, ⟨5, _⟩ => ⟨S2x256x2048, .f32⟩
  | .hbm, ⟨6, _⟩ => ⟨S1x2048x2048, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S_, .f32⟩
  | .hbm, ⟨23, _⟩ => ⟨S2x1024, .f32⟩
  | .hbm, ⟨24, _⟩ => ⟨S1x1024, .f32⟩
  | .hbm, ⟨25, _⟩ => ⟨S1024, .f32⟩
  | .hbm, ⟨26, _⟩ => ⟨S8192x2048, .f32⟩
  | .hbm, ⟨27, _⟩ => ⟨S2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S2048x6144, .f32⟩
  | .hbm, ⟨45, _⟩ => ⟨S8192x6144, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x6144, .f32⟩
  | .hbm, ⟨97, _⟩ => ⟨S2048x2048, .f32⟩
  | .hbm, ⟨98, _⟩ => ⟨S2048x2048, .bf16⟩
  | .hbm, ⟨99, _⟩ => ⟨S512x2048, .f32⟩
  | .hbm, ⟨100, _⟩ => ⟨S512x2048, .bf16⟩
  | .hbm, ⟨101, _⟩ => ⟨S2048x2048, .f32⟩
  | .hbm, ⟨102, _⟩ => ⟨S2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v52 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩

abbrev nD : Nat := 1
abbrev τ : Topo := Topo.v7x

variable {F : FTy → Type} [FloatOps F]
-- ==== InOdd.lean ====
abbrev S8192x2048 : Shape := ⟨2, ![8192, 2048]⟩
abbrev S1x2048x8208 : Shape := ⟨3, ![1, 2048, 8208]⟩
abbrev S1x8 : Shape := ⟨2, ![1, 8]⟩
abbrev S2048x8208 : Shape := ⟨2, ![2048, 8208]⟩
abbrev S2048x16 : Shape := ⟨2, ![2048, 16]⟩
abbrev S16x2048 : Shape := ⟨2, ![16, 2048]⟩
abbrev S8x2048 : Shape := ⟨2, ![8, 2048]⟩
abbrev S_ : Shape := ⟨0, ![]⟩
abbrev S128x2048 : Shape := ⟨2, ![128, 2048]⟩
abbrev S256x2048 : Shape := ⟨2, ![256, 2048]⟩
abbrev S8 : Shape := ⟨1, ![8]⟩
abbrev S128 : Shape := ⟨1, ![128]⟩
abbrev S256 : Shape := ⟨1, ![256]⟩
abbrev S1x256 : Shape := ⟨2, ![1, 256]⟩
abbrev S8208x2048 : Shape := ⟨2, ![8208, 2048]⟩
abbrev S8192x8192 : Shape := ⟨2, ![8192, 8192]⟩
abbrev S8192x128 : Shape := ⟨2, ![8192, 128]⟩
abbrev S64x128 : Shape := ⟨2, ![64, 128]⟩
abbrev S4x128x2048 : Shape := ⟨3, ![4, 128, 2048]⟩
abbrev S1024x2048 : Shape := ⟨2, ![1024, 2048]⟩
abbrev S2048x2048 : Shape := ⟨2, ![2048, 2048]⟩
abbrev S1024x128 : Shape := ⟨2, ![1024, 128]⟩
abbrev S8x128 : Shape := ⟨2, ![8, 128]⟩
abbrev S1x128x1024 : Shape := ⟨3, ![1, 128, 1024]⟩
abbrev S1x128 : Shape := ⟨2, ![1, 128]⟩
abbrev S1024x256 : Shape := ⟨2, ![1024, 256]⟩
abbrev S128x128 : Shape := ⟨2, ![128, 128]⟩
abbrev S1x128x128 : Shape := ⟨3, ![1, 128, 128]⟩

abbrev nBuf : Space → Nat
  | .hbm => 38
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S1x2048x8208, .f32⟩
  | .hbm, ⟨2, _⟩ => ⟨S1x8, .f32⟩
  | .hbm, ⟨3, _⟩ => ⟨S1x8, .f32⟩
  | .hbm, ⟨4, _⟩ => ⟨S2048x8208, .f32⟩
  | .hbm, ⟨5, _⟩ => ⟨S2048x16, .f32⟩
  | .hbm, ⟨6, _⟩ => ⟨S16x2048, .f32⟩
  | .hbm, ⟨7, _⟩ => ⟨S8x2048, .f32⟩
  | .hbm, ⟨8, _⟩ => ⟨S_, .i32⟩
  | .hbm, ⟨9, _⟩ => ⟨S_, .f32⟩
  | .hbm, ⟨10, _⟩ => ⟨S128x2048, .f32⟩
  | .hbm, ⟨11, _⟩ => ⟨S8x2048, .f32⟩
  | .hbm, ⟨12, _⟩ => ⟨S_, .i32⟩
  | .hbm, ⟨13, _⟩ => ⟨S_, .f32⟩
  | .hbm, ⟨14, _⟩ => ⟨S128x2048, .f32⟩
  | .hbm, ⟨15, _⟩ => ⟨S256x2048, .f32⟩
  | .hbm, ⟨16, _⟩ => ⟨S256x2048, .bf16⟩
  | .hbm, ⟨17, _⟩ => ⟨S8, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S256, .f32⟩
  | .hbm, ⟨26, _⟩ => ⟨S1x256, .f32⟩
  | .hbm, ⟨27, _⟩ => ⟨S2048x8208, .f32⟩
  | .hbm, ⟨28, _⟩ => ⟨S8208x2048, .f32⟩
  | .hbm, ⟨29, _⟩ => ⟨S8192x2048, .f32⟩
  | .hbm, ⟨30, _⟩ => ⟨S8192x2048, .bf16⟩
  | .hbm, ⟨31, _⟩ => ⟨S8192x8192, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S64x128, .f32⟩
  | .hbm, ⟨37, _⟩ => ⟨S4x128x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S1x256, .f32⟩
  | .local _ .vmem, ⟨6, _⟩ => ⟨S1024x2048, .f32⟩
  | .local _ .vmem, ⟨7, _⟩ => ⟨S1024x2048, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S8x128, .f32⟩
  | .local _ .vmem, ⟨17, _⟩ => ⟨S8x128, .f32⟩
  | .local _ .vmem, ⟨18, _⟩ => ⟨S1x128x1024, .f32⟩
  | .local _ .vmem, ⟨19, _⟩ => ⟨S1x128x1024, .f32⟩
  | .local _ .vmem, ⟨20, _⟩ => ⟨S1x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call3_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InOddRefIdeal.lean ====
abbrev S8192x2048 : Shape := ⟨2, ![8192, 2048]⟩
abbrev S1x2048x8208 : Shape := ⟨3, ![1, 2048, 8208]⟩
abbrev S1x8 : Shape := ⟨2, ![1, 8]⟩
abbrev S2048x8208 : Shape := ⟨2, ![2048, 8208]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8208, .f32⟩
  | .hbm, ⟨2, _⟩ => ⟨S1x8, .f32⟩
  | .hbm, ⟨3, _⟩ => ⟨S1x8, .f32⟩
  | .hbm, ⟨4, _⟩ => ⟨S8192x2048, .f32⟩
  | .hbm, ⟨5, _⟩ => ⟨S2048x8208, .f32⟩
  | .hbm, ⟨6, _⟩ => ⟨S2048x8192, .f32⟩
  | .hbm, ⟨7, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Scan.lean ====
/- The linear recurrence `h ← a · h + u` over runs of consecutive steps, on the extended reals: a run's product of
   decays and the value it reaches from zero, and how two neighbouring runs compose. -/
module

public import Mathlib.Data.EReal.Inv

@[expose] public section

noncomputable section

namespace Rglru

variable (A U : ℕ → EReal)

/-- The product of the decays of the `n` steps from `lo` on. -/
def decays (lo : ℕ) : ℕ → EReal
  | 0 => 1
  | n + 1 => A (lo + n) * decays lo n

/-- The value the recurrence reaches after the `n` steps from `lo` on, started at zero. -/
def reach (lo : ℕ) : ℕ → EReal
  | 0 => 0
  | n + 1 => A (lo + n) * reach lo n + U (lo + n)

theorem decays_add (lo n : ℕ) : ∀ k, decays A lo (n + k) = decays A (lo + n) k * decays A lo n
  | 0 => by rw [Nat.add_zero, decays, one_mul]
  | k + 1 => by rw [← Nat.add_assoc, decays, decays, decays_add lo n k, mul_assoc, Nat.add_assoc]

variable {A}

/-- Two neighbouring runs: the second starts where the first ends. Each decay is nonnegative and finite, which is what
    lets it be multiplied into a sum. -/
theorem reach_add (hA : ∀ t, 0 ≤ A t) (hA' : ∀ t, A t ≠ ⊤) (lo n : ℕ) :
    ∀ k, reach A U lo (n + k) = decays A (lo + n) k * reach A U lo n + reach A U (lo + n) k
  | 0 => by rw [Nat.add_zero, decays, one_mul, reach, add_zero]
  | k + 1 => by
    rw [← Nat.add_assoc, reach, reach, decays, reach_add hA hA' lo n k,
      EReal.left_distrib_of_nonneg_of_ne_top (hA _) (hA' _), mul_assoc, add_assoc, Nat.add_assoc]

/-- The decays of the last `s` runs of eight steps ending with run `g` (of all `g + 1`, where there are fewer). -/
def lastD (A : ℕ → EReal) (s g : ℕ) : EReal := decays A (8 * (g + 1 - min s (g + 1))) (8 * min s (g + 1))

/-- What the last `s` runs of eight steps ending with run `g` reach from zero. -/
def lastR (A U : ℕ → EReal) (s g : ℕ) : EReal := reach A U (8 * (g + 1 - min s (g + 1))) (8 * min s (g + 1))

theorem last_bounds {s g : ℕ} (hs : s ≤ g) : min s (g + 1) = s ∧ min (2 * s) (g + 1) = min s (g - s + 1) + s ∧
    8 * (g + 1 - (min s (g - s + 1) + s)) = 8 * (g - s + 1 - min s (g - s + 1)) ∧
    8 * (g - s + 1 - min s (g - s + 1)) + 8 * min s (g - s + 1) = 8 * (g + 1 - s) := by omega

theorem lastD_double (A : ℕ → EReal) (s g : ℕ) :
    lastD A s g * (if s ≤ g then lastD A s (g - s) else 1) = lastD A (2 * s) g := by
  unfold lastD
  by_cases hs : s ≤ g
  · obtain ⟨h1, h2, h3, h4⟩ := last_bounds hs
    rw [if_pos hs, h1, h2, h3, Nat.mul_add, decays_add, h4]
  · rw [if_neg hs, mul_one, Nat.min_eq_right (show g + 1 ≤ s by omega), Nat.min_eq_right (show g + 1 ≤ 2 * s by omega)]

theorem lastR_double (hA : ∀ t, 0 ≤ A t) (hA' : ∀ t, A t ≠ ⊤) (s g : ℕ) :
    lastR A U s g + lastD A s g * (if s ≤ g then lastR A U s (g - s) else 0) = lastR A U (2 * s) g := by
  unfold lastR lastD
  by_cases hs : s ≤ g
  · obtain ⟨h1, h2, h3, h4⟩ := last_bounds hs
    rw [if_pos hs, h1, h2, h3, Nat.mul_add, reach_add U hA hA', h4, add_comm]
  · rw [if_neg hs, mul_zero, add_zero, Nat.min_eq_right (show g + 1 ≤ s by omega),
      Nat.min_eq_right (show g + 1 ≤ 2 * s by omega)]

theorem lastR_all (A U : ℕ → EReal) (s g : ℕ) (h : g + 1 ≤ s) : lastR A U s g = reach A U 0 (8 * (g + 1)) := by
  unfold lastR
  rw [Nat.min_eq_right h, Nat.sub_self]

/-- A sequence that follows the recurrence from zero is `reach`. -/
theorem eq_reach (h : ℕ → EReal) (h0 : h 0 = 0) (n : ℕ) (hs : ∀ k, k < n → h (k + 1) = A k * h k + U k) :
    ∀ k, k ≤ n → h k = reach A U 0 k
  | 0, _ => h0
  | k + 1, hk => by
    rw [hs k hk, eq_reach h h0 n hs k (Nat.le_of_succ_le hk), reach, Nat.zero_add]

end Rglru

end
-- ==== Proof.Groups.lean ====
/- The scan inside one block: 2048 rows in 256 groups of eight. Running products and values inside each group, then the
   doubling scan over the groups, then the state each group starts from, each as a named array of the decays `A` and the
   inputs `U`, and each payload of the kernel as one of them. -/
module

public import proofs.«01_k».proof.Proof.Scan
public import proofs.«01_k».proof.Proof.Gen.RglruIdeal.Value
public import Idealize.ShloMosaic.Lib.Pointwise
public import Idealize.ShloMosaic.Lib.ValueIdx
public import Idealize.ShloMosaic.Lib.WordCmp

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen

local notation "Blk" => FVec Ideal S2048x128 FTy.f32
local notation "Grp" => FVec Ideal S256x128 FTy.f32

/-- Lane `l` of a block, as a sequence over its rows. -/
def col (A : Blk) (l : Fin 128) (t : ℕ) : EReal := A (ix2 (Fin.ofNat 2048 t) l)

/-- Row `8 g + p` of each group `g`. -/
def rowsAt (A : Blk) (p : ℕ) : Grp := fun x => col A (x 1) (8 * (x 0).val + p)

/-- The decays of the first `p + 1` rows of each group, multiplied. -/
def groupDecays (A : Blk) (p : ℕ) : Grp := fun x => decays (col A (x 1)) (8 * (x 0).val) (p + 1)

/-- What the first `p + 1` rows of each group reach from zero. -/
def groupReach (A U : Blk) (p : ℕ) : Grp := fun x => reach (col A (x 1)) (col U (x 1)) (8 * (x 0).val) (p + 1)

/-- The decays of the last `s` groups ending with each, multiplied (of all there are, where there are fewer). -/
def lastDecays (A : Blk) (s : ℕ) : Grp := fun x => lastD (col A (x 1)) s (x 0).val

/-- What the last `s` groups ending with each reach from zero. -/
def lastReach (A U : Blk) (s : ℕ) : Grp := fun x => lastR (col A (x 1)) (col U (x 1)) s (x 0).val

/-- The state each group starts from. -/
def start (A U : Blk) : Grp := fun x => reach (col A (x 1)) (col U (x 1)) 0 (8 * (x 0).val)

/-- The state after row `8 g + p` of each group `g`. -/
def stateAt (A U : Blk) (p : ℕ) : Grp := fun x => reach (col A (x 1)) (col U (x 1)) 0 (8 * (x 0).val + p + 1)

/-- The state after every row. -/
def states (A U : Blk) : Blk := fun y => reach (col A (y 1)) (col U (y 1)) 0 ((y 0).val + 1)

/-- Group `g` read `s` groups earlier; `c` where there is none. -/
theorem earlier (X : Grp) (f : ℕ → EReal) (s : ℕ) (h1 : s < 256) (c : Ideal .f32) (hr) (hi) (x : S256x128.Idx)
    (hf : ∀ g : Fin 256, X (ix2 g (x 1)) = f g.val) :
    select (cmpi .sge (iota .tc S256x128 32 [0] hi) (broadcast S256x128 (BitVec.ofNat 32 s)))
      (dynamicRotate 0 (BitVec.ofNat 32 s) none X hr) (broadcast S256x128 c : Grp) x
      = if s ≤ (x 0).val then f ((x 0).val - s) else c := by
  pointwise
  have hx : (x 0).val < 256 := (x 0).isLt
  rw [WordCmp.cmpi_sge_ofNat (by omega) (by omega), hf]
  by_cases h : s ≤ (x 0).val
  · rw [if_pos h, decide_eq_true h]
    refine congrArg f ?_
    show ((x 0).val + 256 - (BitVec.ofNat 32 s).toNat % 256) % 256 = _
    rw [BitVec.toNat_ofNat]
    omega
  · rw [if_neg h, decide_eq_false h]
    rfl

theorem one_word : (Scalar.ofBits (F := Ideal) .f32 0x3F800000#32) = (1 : EReal) := by
  show Ideal.ofBits .f32 _ = _
  norm_num [Ideal.ofBits_def]

theorem zero_word : (Scalar.ofBits (F := Ideal) .f32 0x00000000#32) = (0 : EReal) := by
  show Ideal.ofBits .f32 _ = _
  norm_num [Ideal.ofBits_def]

section Steps

variable (A U : Blk)

theorem groupDecays_zero : rowsAt A 0 = groupDecays A 0 := by
  funext x
  show _ = _ * (1 : EReal)
  rw [mul_one]
  rfl

theorem groupDecays_succ (p : ℕ) : mulf (rowsAt A (p + 1)) (groupDecays A p) = groupDecays A (p + 1) := rfl

theorem groupReach_zero : rowsAt U 0 = groupReach A U 0 := by
  funext x
  show _ = _ * (0 : EReal) + _
  rw [mul_zero, zero_add]
  rfl

theorem groupReach_succ (p : ℕ) :
    addf (mulf (rowsAt A (p + 1)) (groupReach A U p)) (rowsAt U (p + 1)) = groupReach A U (p + 1) := rfl

theorem lastDecays_one : groupDecays A 7 = lastDecays A 1 := by
  funext x
  unfold groupDecays lastDecays lastD
  rw [Nat.min_eq_left (by omega), Nat.add_sub_cancel]

theorem lastReach_one : groupReach A U 7 = lastReach A U 1 := by
  funext x
  unfold groupReach lastReach lastR
  rw [Nat.min_eq_left (by omega), Nat.add_sub_cancel]

/-- A doubling step of the groups' decays. -/
theorem lastDecays_double (s : ℕ) (h : s < 256) (hr) (hi) :
    mulf (lastDecays A s) (select (cmpi .sge (iota .tc S256x128 32 [0] hi) (broadcast S256x128 (BitVec.ofNat 32 s)))
      (dynamicRotate 0 (BitVec.ofNat 32 s) none (lastDecays A s) hr)
      (broadcast S256x128 (Scalar.ofBits (F := Ideal) .f32 0x3F800000#32) : Grp)) = lastDecays A (2 * s) := by
  funext x
  refine Eq.trans (congrArg (lastDecays A s x * ·) ?_) (lastD_double (col A (x 1)) s (x 0).val)
  rw [earlier _ (lastD (col A (x 1)) s) s h _ _ _ _ fun _ => rfl, one_word]

variable (hA : ∀ i, 0 ≤ A i) (hA' : ∀ i, A i ≠ ⊤)
include hA hA'

/-- A doubling step of what the groups reach. -/
theorem lastReach_double (s : ℕ) (h : s < 256) (hr) (hi) :
    addf (lastReach A U s) (mulf (lastDecays A s)
      (select (cmpi .sge (iota .tc S256x128 32 [0] hi) (broadcast S256x128 (BitVec.ofNat 32 s)))
        (dynamicRotate 0 (BitVec.ofNat 32 s) none (lastReach A U s) hr)
        (broadcast S256x128 (Scalar.ofBits (F := Ideal) .f32 0x00000000#32) : Grp))) = lastReach A U (2 * s) := by
  funext x
  refine Eq.trans (congrArg (fun y => lastReach A U s x + lastDecays A s x * y) ?_)
    (lastR_double (A := col A (x 1)) (col U (x 1)) (fun _ => hA _) (fun _ => hA' _) s (x 0).val)
  rw [earlier _ (lastR (col A (x 1)) (col U (x 1)) s) s h _ _ _ _ fun _ => rfl, zero_word]

omit hA hA' in
/-- After the last doubling each group's value is the state it ends in; one group earlier it is the state each
    starts from. -/
theorem start_eq (hr) (hi) :
    select (cmpi .sge (iota .tc S256x128 32 [0] hi) (broadcast S256x128 (BitVec.ofNat 32 1)))
      (dynamicRotate 0 (BitVec.ofNat 32 1) none (lastReach A U 256) hr)
      (broadcast S256x128 (Scalar.ofBits (F := Ideal) .f32 0x00000000#32) : Grp) = start A U := by
  funext x
  rw [earlier _ (lastR (col A (x 1)) (col U (x 1)) 256) 1 (by omega) _ _ _ _ fun _ => rfl, zero_word]
  have hx : (x 0).val < 256 := (x 0).isLt
  unfold start
  by_cases hs : 1 ≤ (x 0).val
  · rw [if_pos hs, lastR_all _ _ _ _ (by omega), Nat.sub_add_cancel hs]
  · rw [if_neg hs, show (x 0).val = 0 by omega]
    rfl

theorem stateAt_eq (p : ℕ) : addf (mulf (groupDecays A p) (start A U)) (groupReach A U p) = stateAt A U p := by
  funext x
  have e := reach_add (A := col A (x 1)) (col U (x 1)) (fun _ => hA _) (fun _ => hA' _) 0 (8 * (x 0).val) (p + 1)
  rw [Nat.zero_add] at e
  exact e.symm

end Steps

end Rglru

end
-- ==== Proof.Payloads.lean ====
/- Each payload of the scan part of the kernel as one of the named arrays of the groups. -/
module

public import proofs.«01_k».proof.Proof.Groups

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen

variable (A U : FVec Ideal S2048x128 .f32)

theorem pay15 : k0_pay15 (F := Ideal) (rowsAt A 0) = shapeCast S1x256x128 (groupDecays A 0) shapeCasts_S256x128_S1x256x128 := by
  rw [← groupDecays_zero]; rfl

theorem pay16 : k0_pay16 (F := Ideal) (rowsAt U 0) = shapeCast S1x256x128 (groupReach A U 0) shapeCasts_S256x128_S1x256x128 := by
  rw [← groupReach_zero]; rfl

theorem pay17 : k0_pay17 (F := Ideal) (rowsAt A 0) (rowsAt A 1) = (groupDecays A 1) := by
  rw [groupDecays_zero]; rfl

theorem pay18 : k0_pay18 (F := Ideal) (rowsAt U 0) (rowsAt A 1) (rowsAt U 1) = (groupReach A U 1) := by
  rw [groupReach_zero A]; rfl

theorem pay19 : k0_pay19 (F := Ideal) (rowsAt A 0) (rowsAt A 1) = shapeCast S1x256x128 (groupDecays A 1) shapeCasts_S256x128_S1x256x128 := by
  rw [← pay17]; rfl

theorem pay20 : k0_pay20 (F := Ideal) (rowsAt U 0) (rowsAt A 1) (rowsAt U 1) = shapeCast S1x256x128 (groupReach A U 1) shapeCasts_S256x128_S1x256x128 := by
  rw [← pay18]; rfl

theorem pay21 : k0_pay21 (F := Ideal) (rowsAt A 0) (rowsAt A 1) (rowsAt A 2) = (groupDecays A 2) := by
  unfold k0_pay21; rw [pay17]; rfl

theorem pay22 : k0_pay22 (F := Ideal) (rowsAt U 0) (rowsAt A 1) (rowsAt U 1) (rowsAt A 2) (rowsAt U 2) = (groupReach A U 2) := by
  unfold k0_pay22; rw [pay18 A]; rfl

theorem pay23 : k0_pay23 (F := Ideal) (groupDecays A 2) = shapeCast S1x256x128 (groupDecays A 2) shapeCasts_S256x128_S1x256x128 := by
  rfl

theorem pay24 : k0_pay24 (F := Ideal) (groupReach A U 2) = shapeCast S1x256x128 (groupReach A U 2) shapeCasts_S256x128_S1x256x128 := by
  rfl

theorem pay27 : k0_pay27 (F := Ideal) (groupDecays A 2) (rowsAt A 3) = shapeCast S1x256x128 (groupDecays A 3) shapeCasts_S256x128_S1x256x128 := by
  rfl

theorem pay28 : k0_pay28 (F := Ideal) (groupReach A U 2) (rowsAt A 3) (rowsAt U 3) = shapeCast S1x256x128 (groupReach A U 3) shapeCasts_S256x128_S1x256x128 := by
  rfl

theorem pay29 : k0_pay29 (F := Ideal) (groupDecays A 2) (rowsAt A 3) (rowsAt A 4) = (groupDecays A 4) := by
  rfl

theorem pay30 : k0_pay30 (F := Ideal) (groupReach A U 2) (rowsAt A 3) (rowsAt U 3) (rowsAt A 4) (rowsAt U 4) = (groupReach A U 4) := by
  rfl

theorem pay31 : k0_pay31 (F := Ideal) (groupDecays A 2) (rowsAt A 3) (rowsAt A 4) = shapeCast S1x256x128 (groupDecays A 4) shapeCasts_S256x128_S1x256x128 := by
  rfl

theorem pay32 : k0_pay32 (F := Ideal) (groupReach A U 2) (rowsAt A 3) (rowsAt U 3) (rowsAt A 4) (rowsAt U 4) = shapeCast S1x256x128 (groupReach A U 4) shapeCasts_S256x128_S1x256x128 := by
  rfl

theorem pay35 : k0_pay35 (F := Ideal) (groupDecays A 4) (rowsAt A 5) = shapeCast S1x256x128 (groupDecays A 5) shapeCasts_S256x128_S1x256x128 := by
  rfl

theorem pay36 : k0_pay36 (F := Ideal) (groupReach A U 4) (rowsAt A 5) (rowsAt U 5) = shapeCast S1x256x128 (groupReach A U 5) shapeCasts_S256x128_S1x256x128 := by
  rfl

theorem pay39 : k0_pay39 (F := Ideal) (groupDecays A 4) (rowsAt A 5) (rowsAt A 6) = shapeCast S1x256x128 (groupDecays A 6) shapeCasts_S256x128_S1x256x128 := by
  rfl

theorem pay40 : k0_pay40 (F := Ideal) (groupReach A U 4) (rowsAt A 5) (rowsAt U 5) (rowsAt A 6) (rowsAt U 6) = shapeCast S1x256x128 (groupReach A U 6) shapeCasts_S256x128_S1x256x128 := by
  rfl

theorem pay41 : k0_pay41 (F := Ideal) (groupDecays A 4) (rowsAt A 5) (rowsAt A 6) (rowsAt A 7) = (groupDecays A 7) := by
  rfl

theorem pay42 : k0_pay42 (F := Ideal) (groupReach A U 4) (rowsAt A 5) (rowsAt U 5) (rowsAt A 6) (rowsAt U 6) (rowsAt A 7) (rowsAt U 7) = (groupReach A U 7) := by
  rfl

theorem pay43 : k0_pay43 (F := Ideal) (groupDecays A 4) (rowsAt A 5) (rowsAt A 6) (rowsAt A 7) = shapeCast S1x256x128 (groupDecays A 7) shapeCasts_S256x128_S1x256x128 := by
  rfl

theorem pay44 : k0_pay44 (F := Ideal) (groupReach A U 7) = shapeCast S1x256x128 (groupReach A U 7) shapeCasts_S256x128_S1x256x128 := by
  rfl

theorem pay46 : k0_pay46 (F := Ideal) (lastDecays A 1) = (lastDecays A 2) := by
  exact lastDecays_double A 1 (by omega) _ _

theorem pay48 : k0_pay48 (F := Ideal) (lastDecays A 1) = (lastDecays A 4) := by
  unfold k0_pay48; rw [pay46]; exact lastDecays_double A 2 (by omega) _ _

theorem pay51 : k0_pay51 (F := Ideal) (lastDecays A 1) = (lastDecays A 8) := by
  unfold k0_pay51; rw [pay48]; exact lastDecays_double A 4 (by omega) _ _

theorem pay53 : k0_pay53 (F := Ideal) (lastDecays A 8) k0_pay52 = (lastDecays A 16) := by
  exact lastDecays_double A 8 (by omega) _ _

theorem pay55 : k0_pay55 (F := Ideal) (iota Kind.tc S256x128 32 [0] iota_S256x128_d0_w32) (lastDecays A 8) k0_pay52 = (lastDecays A 32) := by
  unfold k0_pay55; rw [pay53]; exact lastDecays_double A 16 (by omega) _ _

theorem pay57 : k0_pay57 (F := Ideal) (iota Kind.tc S256x128 32 [0] iota_S256x128_d0_w32) (lastDecays A 8) k0_pay52 = (lastDecays A 64) := by
  unfold k0_pay57; rw [pay55]; exact lastDecays_double A 32 (by omega) _ _

section
variable (hA : ∀ i, 0 ≤ A i) (hA' : ∀ i, A i ≠ ⊤)
include hA hA'

theorem pay50 : k0_pay50 (F := Ideal) (lastDecays A 1) (lastReach A U 1) = (lastReach A U 8) := by
  have h1 := lastReach_double A U hA hA' 1 (by omega) rotates_S256x128_d0 iota_S256x128_d0_w32
  have h2 := lastReach_double A U hA hA' 2 (by omega) rotates_S256x128_d0 iota_S256x128_d0_w32
  have h4 := lastReach_double A U hA hA' 4 (by omega) rotates_S256x128_d0 iota_S256x128_d0_w32
  unfold k0_pay50 k0_pay45 k0_pay47 k0_pay49
  rw [pay46, pay48]
  dsimp only at h1 h2 h4 ⊢
  rw [h1, h2, h4]

theorem pay59 : k0_pay59 (F := Ideal) (iota Kind.tc S256x128 32 [0] iota_S256x128_d0_w32) (lastReach A U 8) (lastDecays A 8) k0_pay52 = (lastReach A U 128) := by
  have h1 := lastReach_double A U hA hA' 8 (by omega) rotates_S256x128_d0 iota_S256x128_d0_w32
  have h2 := lastReach_double A U hA hA' 16 (by omega) rotates_S256x128_d0 iota_S256x128_d0_w32
  have h3 := lastReach_double A U hA hA' 32 (by omega) rotates_S256x128_d0 iota_S256x128_d0_w32
  have h4 := lastReach_double A U hA hA' 64 (by omega) rotates_S256x128_d0 iota_S256x128_d0_w32
  unfold k0_pay59
  rw [pay53, pay55, pay57]
  unfold k0_pay52 k0_pay54 k0_pay56 k0_pay58
  dsimp only at h1 h2 h3 h4 ⊢
  rw [h1, h2, h3, h4]

theorem pay61 : k0_pay61 (F := Ideal) (iota Kind.tc S256x128 32 [0] iota_S256x128_d0_w32) (lastDecays A 64) (lastReach A U 128) (k0_pay60 (iota Kind.tc S256x128 32 [0] iota_S256x128_d0_w32) (lastDecays A 8) k0_pay52) = start A U := by
  have h1 := lastDecays_double A 64 (by omega) rotates_S256x128_d0 iota_S256x128_d0_w32
  have h2 := lastReach_double A U hA hA' 128 (by omega) rotates_S256x128_d0 iota_S256x128_d0_w32
  have h3 := start_eq A U rotates_S256x128_d0 iota_S256x128_d0_w32
  unfold k0_pay61 k0_pay60
  rw [pay57]
  unfold k0_pay58
  dsimp only at h1 h2 h3 ⊢
  rw [h1, h2, h3]

end

/-- One plane of a stack of eight. -/
theorem plane_apply (X : FVec Ideal S256x128 .f32) (x : S1x256x128.Idx) :
    shapeCast S1x256x128 X shapeCasts_S256x128_S1x256x128 x = X (ix2 (x 1) (x 2)) := by
  pointwise

theorem unplane (X : FVec Ideal S256x128 .f32) :
    shapeCast S256x128 (shapeCast S1x256x128 X shapeCasts_S256x128_S1x256x128) shapeCasts_S1x256x128_S256x128 = X := by
  funext x
  pointwise

theorem recast (X : FVec Ideal S256x128 .f32) : shapeCast S256x128 X shapeCasts_S256x128_S256x128 = X := by
  funext x
  pointwise

end Rglru

end
-- ==== Proof.Block.lean ====
/- What one grid point leaves in its output block: the states of the recurrence at the block's decays and inputs,
   times the gate block. -/
module

public import proofs.«01_k».proof.Proof.Payloads

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen
open Idealize.ShloMosaic.Pipeline (Dat)

/-- Every eighth row of a block stored whole. -/
theorem strided {κ : Kind} {sp : Space} {sig : RefSig} (v : View sig κ sp S2048x128 .f32)
    (A : FVec Ideal S2048x128 .f32) (p : ℕ) (hp : p < 8) (hb) (hw) :
    v.readCov (Val := Elt Ideal) [⟨Rect.unit ![0, 0] ![2048, 128] hw, A⟩]
      { off := ![p, 0], size := ![256, 128], stride := ![8, 1], inb := hb } = rowsAt A p := by
  rw [View.readCov_eq_canon', View.canon_unit_zero (S := S2048x128) (by decide)]
  funext x
  unfold rowsAt col
  refine congrArg A (funext fun a => Fin.ext ?_)
  have hx : (x 0).val < 256 := (x 0).isLt
  fin_cases a
  · show p + 8 * (x 0).val = (8 * (x 0).val + p) % 2048
    omega
  · show 0 + 1 * (x 1).val = (x 1).val
    omega

theorem stack_piece (X : ℕ → FVec Ideal S256x128 .f32) (p : ℕ) (hb)
    (x : (Rect.unit (s := S8x256x128) ![p, 0, 0] ![1, 256, 128] hb).shape.Idx) :
    shapeCast S1x256x128 (X p) shapeCasts_S256x128_S1x256x128 x
      = (fun y : S8x256x128.Idx => X (y 0).val (ix2 (y 1) (y 2)))
          ((Rect.unit (s := S8x256x128) ![p, 0, 0] ![1, 256, 128] hb).emb x) := by
  rw [plane_apply]
  have h0 : (x 0).val < 1 := (x 0).isLt
  have e0 : (((Rect.unit (s := S8x256x128) ![p, 0, 0] ![1, 256, 128] hb).emb x) 0).val = p := by
    show p + 1 * (x 0).val = p
    omega
  have e1 : ((Rect.unit (s := S8x256x128) ![p, 0, 0] ![1, 256, 128] hb).emb x) 1 = x 1 :=
    Fin.ext (show 0 + 1 * (x 1).val = (x 1).val by omega)
  have e2 : ((Rect.unit (s := S8x256x128) ![p, 0, 0] ![1, 256, 128] hb).emb x) 2 = x 2 :=
    Fin.ext (show 0 + 1 * (x 2).val = (x 2).val by omega)
  show _ = X _ _
  rw [e0, e1, e2]

/-- A stack of eight planes stored one by one, and plane `p` read back. -/
theorem stack_read {κ : Kind} {sp : Space} {sig : RefSig} (v : View sig κ sp S8x256x128 .f32)
    (X : ℕ → FVec Ideal S256x128 .f32) (p : ℕ) (hp : p < 8) (h0) (h1) (h2) (h3) (h4) (h5) (h6) (h7) (hb) :
    v.readCov (Val := Elt Ideal) [⟨Rect.unit ![7, 0, 0] ![1, 256, 128] h7, shapeCast S1x256x128 (X 7) shapeCasts_S256x128_S1x256x128⟩,
      ⟨Rect.unit ![6, 0, 0] ![1, 256, 128] h6, shapeCast S1x256x128 (X 6) shapeCasts_S256x128_S1x256x128⟩,
      ⟨Rect.unit ![5, 0, 0] ![1, 256, 128] h5, shapeCast S1x256x128 (X 5) shapeCasts_S256x128_S1x256x128⟩,
      ⟨Rect.unit ![4, 0, 0] ![1, 256, 128] h4, shapeCast S1x256x128 (X 4) shapeCasts_S256x128_S1x256x128⟩,
      ⟨Rect.unit ![3, 0, 0] ![1, 256, 128] h3, shapeCast S1x256x128 (X 3) shapeCasts_S256x128_S1x256x128⟩,
      ⟨Rect.unit ![2, 0, 0] ![1, 256, 128] h2, shapeCast S1x256x128 (X 2) shapeCasts_S256x128_S1x256x128⟩,
      ⟨Rect.unit ![1, 0, 0] ![1, 256, 128] h1, shapeCast S1x256x128 (X 1) shapeCasts_S256x128_S1x256x128⟩,
      ⟨Rect.unit ![0, 0, 0] ![1, 256, 128] h0, shapeCast S1x256x128 (X 0) shapeCasts_S256x128_S1x256x128⟩] (Rect.unit ![p, 0, 0] ![1, 256, 128] hb).toLoadRect
      = shapeCast S1x256x128 (X p) shapeCasts_S256x128_S1x256x128 := by
  rw [View.readCov_eq_canon']
  funext x
  rw [View.canon_apply_of_pieces (fun y => X (y 0).val (ix2 (y 1) (y 2)))]
  · exact (stack_piece X p hb x).symm
  · simp only [List.forall_mem_cons]
    exact ⟨stack_piece X 7 h7, stack_piece X 6 h6, stack_piece X 5 h5, stack_piece X 4 h4, stack_piece X 3 h3,
      stack_piece X 2 h2, stack_piece X 1 h1, stack_piece X 0 h0, by simp⟩
  · simp only [List.exists_mem_cons_iff]
    interval_cases p
    · exact .inr (.inr (.inr (.inr (.inr (.inr (.inr (.inl (LoadRect.idx_mem _ x))))))))
    · exact .inr (.inr (.inr (.inr (.inr (.inr (.inl (LoadRect.idx_mem _ x)))))))
    · exact .inr (.inr (.inr (.inr (.inr (.inl (LoadRect.idx_mem _ x))))))
    · exact .inr (.inr (.inr (.inr (.inl (LoadRect.idx_mem _ x)))))
    · exact .inr (.inr (.inr (.inl (LoadRect.idx_mem _ x))))
    · exact .inr (.inr (.inl (LoadRect.idx_mem _ x)))
    · exact .inr (.inl (LoadRect.idx_mem _ x))
    · exact .inl (LoadRect.idx_mem _ x)

theorem rows_piece (A U : FVec Ideal S2048x128 .f32) (p : ℕ) (hp : p < 8) (hb) (hs)
    (x : (⟨⟨![p, 0], ![256, 128], ![8, 1], hb⟩, hs⟩ : Rect S2048x128).shape.Idx) :
    stateAt A U p x = states A U ((⟨⟨![p, 0], ![256, 128], ![8, 1], hb⟩, hs⟩ : Rect S2048x128).emb x) := by
  have e0 : (((⟨⟨![p, 0], ![256, 128], ![8, 1], hb⟩, hs⟩ : Rect S2048x128).emb x) 0).val = 8 * (x 0).val + p :=
    Nat.add_comm _ _
  have e1 : ((⟨⟨![p, 0], ![256, 128], ![8, 1], hb⟩, hs⟩ : Rect S2048x128).emb x) 1 = x 1 :=
    Fin.ext (show 0 + 1 * (x 1).val = (x 1).val by omega)
  unfold stateAt states
  rw [e0, e1]

theorem rows_mem (p : ℕ) (hb) (hs) (y : S2048x128.Idx) (h : (y 0).val % 8 = p) :
    y ∈ (⟨⟨![p, 0], ![256, 128], ![8, 1], hb⟩, hs⟩ : Rect S2048x128).set := by
  refine (LoadRect.mem_set _).2 fun a => ?_
  have h0 : (y 0).val < 2048 := (y 0).isLt
  have h1 : (y 1).val < 128 := (y 1).isLt
  fin_cases a
  · exact ⟨(y 0).val / 8, show (y 0).val / 8 < 256 by omega,
      show (y 0).val = p + 8 * ((y 0).val / 8) by omega⟩
  · exact ⟨(y 1).val, h1, show (y 1).val = 0 + 1 * (y 1).val by omega⟩

/-- The eight interleaved row sets of the states, stored one by one: the states of the whole block. -/
theorem rows_canon (A U : FVec Ideal S2048x128 .f32) (h0) (h1) (h2) (h3) (h4) (h5) (h6) (h7) (hs) :
    View.canon (Val := Elt Ideal) (e := .f32) (s := S2048x128) [⟨⟨⟨![7, 0], ![256, 128], ![8, 1], h7⟩, hs⟩, stateAt A U 7⟩,
      ⟨⟨⟨![6, 0], ![256, 128], ![8, 1], h6⟩, hs⟩, stateAt A U 6⟩,
      ⟨⟨⟨![5, 0], ![256, 128], ![8, 1], h5⟩, hs⟩, stateAt A U 5⟩,
      ⟨⟨⟨![4, 0], ![256, 128], ![8, 1], h4⟩, hs⟩, stateAt A U 4⟩,
      ⟨⟨⟨![3, 0], ![256, 128], ![8, 1], h3⟩, hs⟩, stateAt A U 3⟩,
      ⟨⟨⟨![2, 0], ![256, 128], ![8, 1], h2⟩, hs⟩, stateAt A U 2⟩,
      ⟨⟨⟨![1, 0], ![256, 128], ![8, 1], h1⟩, hs⟩, stateAt A U 1⟩,
      ⟨⟨⟨![0, 0], ![256, 128], ![8, 1], h0⟩, hs⟩, stateAt A U 0⟩] = states A U := by
  funext y
  rw [View.canon_apply_of_pieces (states A U)]
  · simp only [List.forall_mem_cons]
    exact ⟨rows_piece A U 7 (by omega) h7 hs, rows_piece A U 6 (by omega) h6 hs, rows_piece A U 5 (by omega) h5 hs,
      rows_piece A U 4 (by omega) h4 hs, rows_piece A U 3 (by omega) h3 hs, rows_piece A U 2 (by omega) h2 hs,
      rows_piece A U 1 (by omega) h1 hs, rows_piece A U 0 (by omega) h0 hs, by simp⟩
  · simp only [List.exists_mem_cons_iff]
    have h := Nat.mod_lt (y 0).val (show 8 > 0 by omega)
    obtain h | h | h | h | h | h | h | h : (y 0).val % 8 = 0 ∨ (y 0).val % 8 = 1 ∨ (y 0).val % 8 = 2 ∨
      (y 0).val % 8 = 3 ∨ (y 0).val % 8 = 4 ∨ (y 0).val % 8 = 5 ∨ (y 0).val % 8 = 6 ∨ (y 0).val % 8 = 7 := by omega
    · have m := rows_mem 0 h0 hs y h
      exact Or.inr (Or.inr (Or.inr (Or.inr (Or.inr (Or.inr (Or.inr (Or.inl m)))))))
    · have m := rows_mem 1 h1 hs y h
      exact Or.inr (Or.inr (Or.inr (Or.inr (Or.inr (Or.inr (Or.inl m))))))
    · have m := rows_mem 2 h2 hs y h
      exact Or.inr (Or.inr (Or.inr (Or.inr (Or.inr (Or.inl m)))))
    · have m := rows_mem 3 h3 hs y h
      exact Or.inr (Or.inr (Or.inr (Or.inr (Or.inl m))))
    · have m := rows_mem 4 h4 hs y h
      exact Or.inr (Or.inr (Or.inr (Or.inl m)))
    · have m := rows_mem 5 h5 hs y h
      exact Or.inr (Or.inr (Or.inl m))
    · have m := rows_mem 6 h6 hs y h
      exact Or.inr (Or.inl m)
    · have m := rows_mem 7 h7 hs y h
      exact Or.inl m

end Rglru

end
-- ==== Proof.Out.lean ====
/- What one grid point leaves in its output block: the states of the recurrence at the block's decays and inputs,
   times the gate block. -/
module

public import proofs.«01_k».proof.Proof.Block

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen
open Idealize.ShloMosaic.Pipeline (Dat)

/-- The block's convolved input, of the input block, the taps and the bias. -/
def convBlk (x0 : Vec Ideal S1x2048x128 .f32) (x2 : Vec Ideal S4x128 .f32) (x3 : Vec Ideal S1x128 .f32) :
    FVec Ideal S2048x128 .f32 :=
  k0_pay7 (k0_pay1 (View.ld x2 (Rect.unit ![0, 0] ![1, 128] inb_S4x128_S1x128_0_0))) (k0_pay2 (View.ld x2 (Rect.unit ![1, 0] ![1, 128] inb_S4x128_S1x128_1_0))) (k0_pay3 (View.ld x2 (Rect.unit ![2, 0] ![1, 128] inb_S4x128_S1x128_2_0))) (k0_pay4 (View.ld x2 (Rect.unit ![3, 0] ![1, 128] inb_S4x128_S1x128_3_0)))
    (k0_pay5 (View.ld x2 (Rect.unit ![0, 0] ![1, 128] inb_S4x128_S1x128_0_0)) (View.ld x2 (Rect.unit ![1, 0] ![1, 128] inb_S4x128_S1x128_1_0))
      (View.ld x2 (Rect.unit ![2, 0] ![1, 128] inb_S4x128_S1x128_2_0)) (View.ld x2 (Rect.unit ![3, 0] ![1, 128] inb_S4x128_S1x128_3_0))
      (View.ld x3 (Rect.unit ![0, 0] ![1, 128] inb_S1x128_S1x128_0_0))
      (View.ld x0 (Rect.unit ![0, 8, 0] ![1, 2040, 128] inb_S1x2048x128_S1x2040x128_0_8_0))
      (View.ld x0 (Rect.unit ![0, 7, 0] ![1, 2040, 128] inb_S1x2048x128_S1x2040x128_0_7_0))
      (View.ld x0 (Rect.unit ![0, 6, 0] ![1, 2040, 128] inb_S1x2048x128_S1x2040x128_0_6_0))
      (View.ld x0 (Rect.unit ![0, 5, 0] ![1, 2040, 128] inb_S1x2048x128_S1x2040x128_0_5_0)))
    (k0_pay6 (View.ld x0 (Rect.unit ![0, 0, 0] ![1, 8, 128] inb_S1x2048x128_S1x8x128_0_0_0)))
    (View.ld x3 (Rect.unit ![0, 0] ![1, 128] inb_S1x128_S1x128_0_0))

/-- The block's recurrence gate. -/
def gateBlk (x0 : Vec Ideal S1x2048x128 .f32) (x2 : Vec Ideal S4x128 .f32) (x3 : Vec Ideal S1x128 .f32)
    (x4 : Vec Ideal S1x128x128 .bf16) (x5 : Vec Ideal S1x128 .f32) : FVec Ideal S2048x128 .f32 :=
  k0_pay8 (k0_pay1 (View.ld x2 (Rect.unit ![0, 0] ![1, 128] inb_S4x128_S1x128_0_0))) (k0_pay2 (View.ld x2 (Rect.unit ![1, 0] ![1, 128] inb_S4x128_S1x128_1_0))) (k0_pay3 (View.ld x2 (Rect.unit ![2, 0] ![1, 128] inb_S4x128_S1x128_2_0))) (k0_pay4 (View.ld x2 (Rect.unit ![3, 0] ![1, 128] inb_S4x128_S1x128_3_0)))
    (k0_pay5 (View.ld x2 (Rect.unit ![0, 0] ![1, 128] inb_S4x128_S1x128_0_0)) (View.ld x2 (Rect.unit ![1, 0] ![1, 128] inb_S4x128_S1x128_1_0))
      (View.ld x2 (Rect.unit ![2, 0] ![1, 128] inb_S4x128_S1x128_2_0)) (View.ld x2 (Rect.unit ![3, 0] ![1, 128] inb_S4x128_S1x128_3_0))
      (View.ld x3 (Rect.unit ![0, 0] ![1, 128] inb_S1x128_S1x128_0_0))
      (View.ld x0 (Rect.unit ![0, 8, 0] ![1, 2040, 128] inb_S1x2048x128_S1x2040x128_0_8_0))
      (View.ld x0 (Rect.unit ![0, 7, 0] ![1, 2040, 128] inb_S1x2048x128_S1x2040x128_0_7_0))
      (View.ld x0 (Rect.unit ![0, 6, 0] ![1, 2040, 128] inb_S1x2048x128_S1x2040x128_0_6_0))
      (View.ld x0 (Rect.unit ![0, 5, 0] ![1, 2040, 128] inb_S1x2048x128_S1x2040x128_0_5_0)))
    (k0_pay6 (View.ld x0 (Rect.unit ![0, 0, 0] ![1, 8, 128] inb_S1x2048x128_S1x8x128_0_0_0)))
    (View.ld x3 (Rect.unit ![0, 0] ![1, 128] inb_S1x128_S1x128_0_0))
    (View.ld x4 (Rect.unit ![0, 0, 0] ![1, 128, 128] inb_S1x128x128_S1x128x128_0_0_0)) (View.ld x5 (Rect.unit ![0, 0] ![1, 128] inb_S1x128_S1x128_0_0))

/-- The block's decays. -/
def decayBlk (x0 : Vec Ideal S1x2048x128 .f32) (x2 : Vec Ideal S4x128 .f32) (x3 : Vec Ideal S1x128 .f32)
    (x4 : Vec Ideal S1x128x128 .bf16) (x5 : Vec Ideal S1x128 .f32) (x8 : Vec Ideal S1x128 .f32) :
    FVec Ideal S2048x128 .f32 :=
  k0_pay11 (gateBlk x0 x2 x3 x4 x5) (View.ld x8 (Rect.unit ![0, 0] ![1, 128] inb_S1x128_S1x128_0_0))

/-- The block's inputs to the recurrence. -/
def inputBlk (x0 : Vec Ideal S1x2048x128 .f32) (x2 : Vec Ideal S4x128 .f32) (x3 : Vec Ideal S1x128 .f32)
    (x4 : Vec Ideal S1x128x128 .bf16) (x5 : Vec Ideal S1x128 .f32) (x6 : Vec Ideal S1x128x128 .bf16)
    (x7 : Vec Ideal S1x128 .f32) (x8 : Vec Ideal S1x128 .f32) : FVec Ideal S2048x128 .f32 :=
  k0_pay14 (k0_pay12 (gateBlk x0 x2 x3 x4 x5) (View.ld x8 (Rect.unit ![0, 0] ![1, 128] inb_S1x128_S1x128_0_0)))
    (k0_pay13 (convBlk x0 x2 x3) (View.ld x6 (Rect.unit ![0, 0, 0] ![1, 128, 128] inb_S1x128x128_S1x128x128_0_0_0)) (View.ld x7 (Rect.unit ![0, 0] ![1, 128] inb_S1x128_S1x128_0_0)))

theorem pay62 (A U : FVec Ideal S2048x128 .f32) (hA : ∀ i, 0 ≤ A i) (hA' : ∀ i, A i ≠ ⊤) (p : ℕ) :
    shapeCast S256x128 (addf (mulf (shapeCast S256x128 (shapeCast S1x256x128 (groupDecays A p)
      shapeCasts_S256x128_S1x256x128) shapeCasts_S1x256x128_S256x128) (start A U))
      (shapeCast S256x128 (shapeCast S1x256x128 (groupReach A U p) shapeCasts_S256x128_S1x256x128)
        shapeCasts_S1x256x128_S256x128)) shapeCasts_S256x128_S256x128 = stateAt A U p := by
  rw [unplane, unplane, recast, stateAt_eq A U hA hA']

variable (m : (ℓ : Loc nD τ sig) → Buf (Elt Ideal) ℓ)

set_option maxHeartbeats 2000000 in
theorem outsAt_eq (c : Dev nD) (t : Fin cfg0.N)
    (hA : ∀ i, 0 ≤ decayBlk (iblk m c 0 t) (iblk m c 2 t) (iblk m c 3 t) (iblk m c 4 t) (iblk m c 5 t) (iblk m c 8 t) i)
    (hA' : ∀ i, decayBlk (iblk m c 0 t) (iblk m c 2 t) (iblk m c 3 t) (iblk m c 4 t) (iblk m c 5 t) (iblk m c 8 t) i ≠ ⊤) :
    outsAt0 m c t = k0_pay73 (F := Ideal)
      (states (decayBlk (iblk m c 0 t) (iblk m c 2 t) (iblk m c 3 t) (iblk m c 4 t) (iblk m c 5 t) (iblk m c 8 t))
        (inputBlk (iblk m c 0 t) (iblk m c 2 t) (iblk m c 3 t) (iblk m c 4 t) (iblk m c 5 t) (iblk m c 6 t)
          (iblk m c 7 t) (iblk m c 8 t))) (iblk m c 1 t) := by
  unfold outsAt0 out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  unfold decayBlk inputBlk gateBlk convBlk at *
  revert hA hA'
  generalize k0_pay11 (F := Ideal) _ _ = A
  generalize k0_pay14 (F := Ideal) _ _ = U
  intro hA hA'
  rw [View.canon_unit_zero (S := S1x2048x128) (by decide)]
  simp only [strided _ _ 0 (by omega), strided _ _ 1 (by omega), strided _ _ 2 (by omega), strided _ _ 3 (by omega), strided _ _ 4 (by omega), strided _ _ 5 (by omega), strided _ _ 6 (by omega), strided _ _ 7 (by omega)]
  simp only [pay15, pay16 A, pay17, pay18, pay19, pay20, pay21, pay22, pay23, pay24, pay27, pay28, pay29, pay30, pay31, pay32, pay35, pay36, pay39, pay40, pay41, pay42, pay43, pay44]
  simp only [stack_read _ (groupDecays A) 0 (by omega), stack_read _ (groupReach A U) 0 (by omega), stack_read _ (groupDecays A) 1 (by omega), stack_read _ (groupReach A U) 1 (by omega), stack_read _ (groupDecays A) 2 (by omega), stack_read _ (groupReach A U) 2 (by omega), stack_read _ (groupDecays A) 3 (by omega), stack_read _ (groupReach A U) 3 (by omega), stack_read _ (groupDecays A) 4 (by omega), stack_read _ (groupReach A U) 4 (by omega), stack_read _ (groupDecays A) 5 (by omega), stack_read _ (groupReach A U) 5 (by omega), stack_read _ (groupDecays A) 6 (by omega), stack_read _ (groupReach A U) 6 (by omega), stack_read _ (groupDecays A) 7 (by omega), stack_read _ (groupReach A U) 7 (by omega)]
  simp only [lastDecays_one, lastReach_one]
  rw [pay50 A U hA hA', pay51, pay57, pay59 A U hA hA', pay61 A U hA hA']
  simp only [k0_pay62, k0_pay63, k0_pay64, k0_pay65, k0_pay66, k0_pay67, k0_pay68, k0_pay69, k0_pay70, k0_pay71, k0_pay72,
    pay61 A U hA hA', ← lastDecays_one, ← lastReach_one]
  simp only [pay62 A U hA hA']
  rw [View.readCov_eq_canon', rows_canon]
  congr 1
  · exact View.ld_unit_zero (Val := Elt Ideal) (e := .f32) (S := S2048x128) (off := ![0, 0]) (by decide) _ (states A U)
  · exact View.ld_unit_zero (Val := Elt Ideal) (e := .f32) (S := S1x2048x128) (off := ![0, 0, 0]) (by decide) _ _

end Rglru

end
-- ==== Proof.Spec.lean ====
/- The scalar pieces of the RG-LRU: convolution, gate, decay, input scale; and the equations between the two ways of
   writing them. -/
module

public import Idealize.ShloMosaic.Lib.Pointwise
public import Mathlib.Data.EReal.Inv

@[expose] public section

noncomputable section

namespace Rglru

open Idealize.ShloMosaic

/-- The value `s` positions before `t`, zero before the sequence. -/
def past (x : ℕ → EReal) (s t : ℕ) : EReal := if s ≤ t then x (t - s) else 0

/-- The causal convolution of width four. -/
def conv (x : ℕ → EReal) (w : Fin 4 → EReal) (b : EReal) (t : ℕ) : EReal :=
  b + past x 3 t * w 0 + past x 2 t * w 1 + past x 1 t * w 2 + past x 0 t * w 3

/-- A gate: the logistic function of a channel group's product with a column, plus a bias. -/
def gate (v w : Fin 128 → EReal) (b : EReal) : EReal := Ideal.logistic (∑ k, v k * w k + b)

def softplus (x : EReal) : EReal := max x 0 + Ideal.log1p (Ideal.exp (-max x (-x)))

/-- The logarithm of the decay, of the recurrence gate and the channel's parameter. -/
def logDecay (r lam : EReal) : EReal := Ideal.ofBits .f32 0xC1000000#32 * r * softplus (-lam)

/-- The input's scale `√(1 − a²)`, of the decay's logarithm. -/
def scale (la : EReal) : EReal := Ideal.sqrt (-(Ideal.exp (Ideal.ofBits .f32 0x40000000#32 * la) - 1))

/-- One minus the decay squared, by the hyperbolic tangent. -/
def rest (la : EReal) : EReal := (0 - Ideal.tanh la) * (Ideal.exp la * Ideal.exp la + 1)

theorem eight_word : Ideal.ofBits .f32 0xC1000000#32 = ((-8 : ℝ) : EReal) := by
  have hx : (BitVec.extractLsb' 23 8 (0xC1000000#32 : BitVec 32)).toNat = 130 := by decide
  have hf : (BitVec.extractLsb' 0 23 (0xC1000000#32 : BitVec 32)).toNat = 0 := by decide
  have hn : (BitVec.extractLsb' 31 1 (0xC1000000#32 : BitVec 32) == 1#1) = true := by decide
  unfold Ideal.ofBits Ideal.ieee
  simp only [hx, hf, hn, Nat.reduceAdd]
  norm_num

theorem two_word : Ideal.ofBits .f32 0x40000000#32 = ((2 : ℝ) : EReal) := by
  have hx : (BitVec.extractLsb' 23 8 (0x40000000#32 : BitVec 32)).toNat = 128 := by decide
  have hf : (BitVec.extractLsb' 0 23 (0x40000000#32 : BitVec 32)).toNat = 0 := by decide
  have hn : (BitVec.extractLsb' 31 1 (0x40000000#32 : BitVec 32) == 1#1) = false := by decide
  unfold Ideal.ofBits Ideal.ieee
  simp only [hx, hf, hn, Nat.reduceAdd]
  norm_num

theorem logistic_nonneg (x : EReal) : 0 ≤ Ideal.logistic x := by
  induction x with
  | bot => simp
  | top => simp
  | coe r =>
    rw [Ideal.logistic_coe]
    exact EReal.coe_nonneg.2 (by positivity)

theorem log1p_nonneg (y : EReal) (h : 0 ≤ y) : 0 ≤ Ideal.log1p y := by
  unfold Ideal.log1p
  induction y with
  | bot => simp at h
  | top =>
    have : (1 : EReal) + ⊤ = ⊤ := EReal.add_top_of_ne_bot (by decide)
    rw [this]; simp
  | coe r =>
    have hr : 0 ≤ r := EReal.coe_nonneg.1 h
    have : (1 : EReal) + (r : EReal) = ((1 + r : ℝ) : EReal) := by push_cast; rfl
    rw [this, Ideal.log_coe, if_neg (by linarith)]
    exact EReal.coe_nonneg.2 (Real.log_nonneg (by linarith))

theorem exp_nonneg (y : EReal) : 0 ≤ Ideal.exp y := by
  induction y with
  | bot => simp
  | top => simp
  | coe r => rw [Ideal.exp_coe]; exact EReal.coe_nonneg.2 (Real.exp_pos r).le

theorem exp_ne_top (y : EReal) (h : y ≤ 0) : Ideal.exp y ≠ ⊤ := by
  induction y with
  | bot => simp
  | top => simp at h
  | coe r => rw [Ideal.exp_coe]; exact EReal.coe_ne_top _

theorem softplus_nonneg (x : EReal) : 0 ≤ softplus x :=
  add_nonneg (le_max_right _ _) (log1p_nonneg _ (exp_nonneg _))

theorem logDecay_nonpos (r lam : EReal) (hr : 0 ≤ r) : logDecay r lam ≤ 0 := by
  unfold logDecay
  rw [eight_word, mul_assoc]
  have h : 0 ≤ r * softplus (-lam) := mul_nonneg hr (softplus_nonneg _)
  have e : ((-8 : ℝ) : EReal) = -((8 : ℝ) : EReal) := by push_cast; rfl
  rw [e, neg_mul]
  rw [EReal.neg_le, neg_zero]
  exact mul_nonneg (EReal.coe_nonneg.2 (by norm_num)) h

/-- The two ways of writing the input's scale agree where the decay is at most one. -/
theorem scale_eq (la : EReal) (h : la ≤ 0) :
    (if 0 < rest la then rest la * Ideal.rsqrt (rest la) else 0) = scale la := by
  induction la with
  | top => simp at h
  | bot =>
    have e1 : rest ⊥ = ((1 : ℝ) : EReal) := by
      unfold rest
      simp
    have e2 : Ideal.ofBits .f32 0x40000000#32 * (⊥ : EReal) = ⊥ := by
      rw [two_word]; exact EReal.coe_mul_bot_of_pos (by norm_num)
    unfold scale
    rw [e1, e2, Ideal.exp_bot]
    have e3 : -((0 : EReal) - 1) = ((1 : ℝ) : EReal) := by simp
    rw [e3, Ideal.rsqrt_coe, Ideal.sqrt_coe]
    norm_num
  | coe x =>
    have hx : x ≤ 0 := by exact_mod_cast h
    have e1 : rest (x : EReal) = ((1 - Real.exp (2 * x) : ℝ) : EReal) := by
      unfold rest
      rw [Ideal.tanh_coe, Ideal.exp_coe]
      have : -Real.tanh x * (Real.exp x * Real.exp x + 1) = 1 - Real.exp (2 * x) := by
        rw [Real.tanh_eq_sinh_div_cosh, Real.sinh_eq, Real.cosh_eq, two_mul, Real.exp_add]
        have hp := Real.exp_pos x
        have hn : Real.exp (-x) = (Real.exp x)⁻¹ := Real.exp_neg x
        rw [hn]
        field_simp
        ring
      rw [← this, zero_sub]
      push_cast
      rfl
    have e2 : scale (x : EReal) = ((Real.sqrt (1 - Real.exp (2 * x)) : ℝ) : EReal) := by
      unfold scale
      rw [two_word, ← EReal.coe_mul, Ideal.exp_coe]
      have : -(((Real.exp (2 * x) : ℝ) : EReal) - 1) = ((1 - Real.exp (2 * x) : ℝ) : EReal) := by
        have h1 : (1 : EReal) = ((1 : ℝ) : EReal) := rfl
        rw [h1, ← EReal.coe_sub, ← EReal.coe_neg, neg_sub]
      rw [this, Ideal.sqrt_coe, if_neg]
      have : Real.exp (2 * x) ≤ 1 := Real.exp_le_one_iff.2 (by linarith)
      linarith
    rw [e1, e2]
    generalize 1 - Real.exp (2 * x) = y
    split
    · rename_i hy
      have hy' : 0 < y := by exact_mod_cast hy
      rw [Ideal.rsqrt_coe, if_neg (by linarith), if_neg hy'.ne', ← EReal.coe_mul]
      congr 1
      rw [← div_eq_mul_inv, Real.div_sqrt]
    · rename_i hy
      have hy' : y ≤ 0 := not_lt.1 fun h => hy (by exact_mod_cast h)
      rw [Real.sqrt_eq_zero_of_nonpos hy']
      rfl

end Rglru

end
-- ==== Proof.Elem.lean ====
/- The kernel block's convolution, gates, decays and inputs at an element. -/
module

public import proofs.«01_k».proof.Proof.Out
public import proofs.«01_k».proof.Proof.Spec
public import Idealize.ShloMosaic.Lib.Pointwise
public import Idealize.ShloMosaic.Lib.WordCmp

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen

variable (x0 x1 : Vec Ideal S1x2048x128 .f32) (x2 : Vec Ideal S4x128 .f32) (x3 x5 x7 x8 : Vec Ideal S1x128 .f32)
  (x4 x6 : Vec Ideal S1x128x128 .bf16)

/-- Column `l` of the block's input, by position. -/
def xcol (l : Fin 128) (t : ℕ) : EReal := x0 (ix3 0 (Fin.ofNat 2048 t) l)

theorem xcol_eq (l : Fin 128) (t : ℕ) (h : t < 2048) : xcol x0 l t = x0 (ix3 0 ⟨t, h⟩ l) :=
  congrArg (fun r => x0 (ix3 0 r l)) (Fin.ext (Nat.mod_eq_of_lt h))

theorem past_eq (l : Fin 128) (s r n : ℕ) (hs : s ≤ r) (hn : n < 2048) (e : n = r - s) :
    x0 (ix3 0 ⟨n, hn⟩ l) = past (xcol x0 l) s r := by
  subst e
  rw [past, if_pos hs, xcol_eq]

theorem past_sel (l : Fin 128) (s r n : ℕ) (w : EReal) (hr : r < 8) (hs : s < 8) (hn : n < 2048) (e : n = (r + 8 - s) % 8) :
    Scalar.select (α := EReal) (IntOp.cmpi .sge (BitVec.ofNat 32 r) (BitVec.ofNat 32 s)) (x0 (ix3 0 ⟨n, hn⟩ l) * w) 0
      = past (xcol x0 l) s r * w := by
  rw [WordCmp.cmpi_sge_ofNat (by omega) (by omega)]
  by_cases h : s ≤ r
  · rw [past_eq x0 l s r n h hn (by omega), decide_eq_true h]
    rfl
  · rw [past, if_neg h, decide_eq_false h, zero_mul]
    rfl

theorem convBlk_apply (r : Fin 2048) (l : Fin 128) :
    convBlk x0 x2 x3 (ix2 r l) = conv (xcol x0 l) (fun j => x2 (ix2 j l)) (x3 (ix2 0 l)) r.val := by
  unfold convBlk
  pointwise [k0_pay7, k0_pay6, k0_pay5, k0_pay4, k0_pay3, k0_pay2, k0_pay1]
  have key : ∀ a b c d e : EReal, a + b + c + d + e = a + e + d + c + b := fun a b c d e => by
    rw [add_right_comm a b c, add_right_comm (a + c) b d, add_right_comm (a + c + d) b e, add_right_comm a c d,
      add_right_comm (a + d) c e, add_right_comm a d e]
  split
  · rename_i h
    unfold conv
    rw [past_sel x0 l 1 r.val _ _ h (by omega) (by omega) rfl, past_sel x0 l 2 r.val _ _ h (by omega) (by omega) rfl,
      past_sel x0 l 3 r.val _ _ h (by omega) (by omega) rfl, past_eq x0 l 0 r.val r.val (by omega) r.isLt (by omega)]
    exact key _ _ _ _ _
  · rename_i h
    unfold conv
    rw [past_eq x0 l 0 r.val (8 + (r.val - 8)) (by omega) (by omega) (by omega),
      past_eq x0 l 1 r.val (7 + (r.val - 8)) (by omega) (by omega) (by omega),
      past_eq x0 l 2 r.val (6 + (r.val - 8)) (by omega) (by omega) (by omega),
      past_eq x0 l 3 r.val (5 + (r.val - 8)) (by omega) (by omega) (by omega)]
    exact key _ _ _ _ _

theorem gateBlk_apply (r : Fin 2048) (l : Fin 128) : gateBlk x0 x2 x3 x4 x5 (ix2 r l)
    = gate (fun k => convBlk x0 x2 x3 (ix2 r k)) (fun k => x4 (ix3 0 k l)) (x5 (ix2 0 l)) := by
  have e : gateBlk x0 x2 x3 x4 x5 = k0_pay8 (F := Ideal) _ _ _ _ _ _ _ _ _ := rfl
  rw [e]
  pointwise [k0_pay8]
  rfl

theorem decayBlk_apply (r : Fin 2048) (l : Fin 128) : decayBlk x0 x2 x3 x4 x5 x8 (ix2 r l)
    = Ideal.exp (logDecay (gateBlk x0 x2 x3 x4 x5 (ix2 r l)) (x8 (ix2 0 l))) := by
  unfold decayBlk
  pointwise [k0_pay11, k0_pay10, k0_pay9]
  rw [zero_sub, zero_sub]
  rfl

theorem log_nonpos (r : Fin 2048) (l : Fin 128) :
    logDecay (gateBlk x0 x2 x3 x4 x5 (ix2 r l)) (x8 (ix2 0 l)) ≤ 0 :=
  logDecay_nonpos _ _ (by rw [gateBlk_apply]; exact logistic_nonneg _)

theorem inputBlk_apply (r : Fin 2048) (l : Fin 128) : inputBlk x0 x2 x3 x4 x5 x6 x7 x8 (ix2 r l)
    = scale (logDecay (gateBlk x0 x2 x3 x4 x5 (ix2 r l)) (x8 (ix2 0 l)))
      * (gate (fun k => convBlk x0 x2 x3 (ix2 r k)) (fun k => x6 (ix3 0 k l)) (x7 (ix2 0 l))
        * convBlk x0 x2 x3 (ix2 r l)) := by
  rw [← scale_eq _ (log_nonpos x0 x2 x3 x5 x8 x4 r l)]
  unfold inputBlk
  pointwise [k0_pay14, k0_pay13, k0_pay12, k0_pay10, k0_pay9]
  rw [zero_sub (x8 (ix2 0 l)), zero_sub (FloatOps.absf (F := Ideal) (φ := .f32) _)]
  rfl

theorem decayBlk_nonneg (i : S2048x128.Idx) : 0 ≤ decayBlk x0 x2 x3 x4 x5 x8 i := by
  obtain ⟨r, l, rfl⟩ : ∃ (r : Fin 2048) (l : Fin 128), i = ix2 r l := ⟨i 0, i 1, by pointwise []⟩
  rw [decayBlk_apply]
  exact exp_nonneg _

theorem decayBlk_ne_top (i : S2048x128.Idx) : decayBlk x0 x2 x3 x4 x5 x8 i ≠ ⊤ := by
  obtain ⟨r, l, rfl⟩ : ∃ (r : Fin 2048) (l : Fin 128), i = ix2 r l := ⟨i 0, i 1, by pointwise []⟩
  rw [decayBlk_apply]
  exact exp_ne_top _ (log_nonpos x0 x2 x3 x5 x8 x4 _ _)

end Rglru

end
-- ==== Proof.Value.lean ====
/- The closed form of the RG-LRU call, element by element, of its arguments. -/
module

public import proofs.«01_k».proof.RglruIdeal
public import proofs.«01_k».proof.Proof.Scan
public import proofs.«01_k».proof.Proof.Spec

@[expose] public section

noncomputable section

namespace Rglru

open Idealize.ShloMosaic Idealize.ShloMosaic.TcCoe Idealize.SL.Sem
open Cert.RglruIdeal

/-- The channel at place `l` of group `n`. -/
def chan (n : Fin 8) (l : Fin 128) : Fin 1024 := ⟨128 * n.val + l.val, by omega⟩

variable (a0 : (⟨S4x2048x6144, .f32⟩ : BufTy).Contents (Elt Ideal)) (a1 : (⟨S1x4x1024, .f32⟩ : BufTy).Contents (Elt Ideal))
  (a2 : (⟨S1x1024, .f32⟩ : BufTy).Contents (Elt Ideal)) (a3 : (⟨S1x8x128x128, .f32⟩ : BufTy).Contents (Elt Ideal))
  (a4 : (⟨S1x1024, .f32⟩ : BufTy).Contents (Elt Ideal)) (a5 : (⟨S1x8x128x128, .f32⟩ : BufTy).Contents (Elt Ideal))
  (a6 a7 : (⟨S1x1024, .f32⟩ : BufTy).Contents (Elt Ideal)) (b : Fin 4) (n : Fin 8)

/-- The channel's input at a position. -/
def xAt (l : Fin 128) (t : ℕ) : EReal :=
  a0 (ix3 b (Fin.ofNat 2048 t) ⟨4096 + (128 * n.val + l.val), by omega⟩)

/-- The convolved input. -/
def convAt (l : Fin 128) (t : Fin 2048) : EReal :=
  conv (xAt a0 b n l) (fun j => a1 (ix3 0 j (chan n l))) (a2 (ix2 0 (chan n l))) t.val

/-- A gate of the group's convolved inputs. -/
def gateAt (w : (⟨S1x8x128x128, .f32⟩ : BufTy).Contents (Elt Ideal)) (d : (⟨S1x1024, .f32⟩ : BufTy).Contents (Elt Ideal))
    (l : Fin 128) (t : Fin 2048) : EReal :=
  gate (fun k => convAt a0 a1 a2 b n k t) (fun k => w (ix4 0 n k l)) (d (ix2 0 (chan n l)))

/-- The decay's logarithm. -/
def logAt (l : Fin 128) (t : Fin 2048) : EReal := logDecay (gateAt a0 a1 a2 b n a3 a4 l t) (a7 (ix2 0 (chan n l)))

/-- The recurrence's input. -/
def inAt (l : Fin 128) (t : Fin 2048) : EReal :=
  scale (logAt a0 a1 a2 a3 a4 a7 b n l t) * (gateAt a0 a1 a2 b n a5 a6 l t * convAt a0 a1 a2 b n l t)

/-- The state after position `t`. -/
def stAt (l : Fin 128) (t : Fin 2048) : EReal :=
  reach (fun s => Ideal.exp (logAt a0 a1 a2 a3 a4 a7 b n l (Fin.ofNat 2048 s)))
    (fun s => inAt a0 a1 a2 a3 a4 a5 a6 a7 b n l (Fin.ofNat 2048 s)) 0 (t.val + 1)

def grp (c : Fin 1024) : Fin 8 := ⟨c.val / 128, by omega⟩
def lane (c : Fin 1024) : Fin 128 := ⟨c.val % 128, by omega⟩

/-- The call's result. -/
def out (i : S4x2048x1024.Idx) : EReal :=
  stAt a0 a1 a2 a3 a4 a5 a6 a7 (i 0) (grp (i 2)) (lane (i 2)) (i 1)
    * a0 (ix3 (i 0) (i 1) ⟨5120 + (i 2).val, by have := (i 2).isLt; change _ < 1024 at this; omega⟩)

end Rglru

end
-- ==== Proof.Kern.lean ====
/- The kernel's result array is the closed form of its arguments. -/
module

public import proofs.«01_k».proof.Proof.Elem
public import proofs.«01_k».proof.Proof.Value
public import proofs.«01_k».proof.Proof.Gen.RglruIdeal.Value
public import Idealize.ShloMosaic.Lib.Pipeline.ValueKit

@[expose] public section

set_option maxRecDepth 16384

noncomputable section

namespace Rglru

open Idealize.ShloMosaic Idealize.ShloMosaic.TcCoe Idealize.SL.Sem Idealize.ShloMosaic.Tactic
open Cert.RglruIdeal Cert.RglruIdeal.Gen
open Idealize.ShloMosaic.Pipeline (Dat)

variable (m : (ℓ : Loc nD τ sig) → Buf (Elt Ideal) ℓ)

/-- Argument `r` as launched. -/
abbrev arg (c : Dev nD) (r : Ref sig .tc) := m ((c : Thread nD τ).loc r)

def bOf (t : Fin cfg0.N) : Fin 4 := ⟨t.val / 8, by have := t.isLt; change _ < 32 at this; omega⟩
def nOf (t : Fin cfg0.N) : Fin 8 := ⟨t.val % 8, by omega⟩

theorem idx : ∀ t : Fin cfg0.N, win0_0.index t = ![t.val / 8, 0, 32 + t.val % 8] ∧
    win0_1.index t = ![t.val / 8, 0, 40 + t.val % 8] ∧ win0_2.index t = ![0, t.val % 8] ∧
    win0_3.index t = ![0, t.val % 8] ∧ win0_4.index t = ![t.val % 8, 0, 0] ∧ win0_5.index t = ![0, t.val % 8] ∧
    win0_6.index t = ![t.val % 8, 0, 0] ∧ win0_7.index t = ![0, t.val % 8] ∧ win0_8.index t = ![0, t.val % 8] ∧
    win0_9.index t = ![t.val / 8, 0, t.val % 8] :=
  (by decide +kernel : ∀ t : Fin grid0.N, win0_0.index t = ![t.val / 8, 0, 32 + t.val % 8] ∧
    win0_1.index t = ![t.val / 8, 0, 40 + t.val % 8] ∧ win0_2.index t = ![0, t.val % 8] ∧
    win0_3.index t = ![0, t.val % 8] ∧ win0_4.index t = ![t.val % 8, 0, 0] ∧ win0_5.index t = ![0, t.val % 8] ∧
    win0_6.index t = ![t.val % 8, 0, 0] ∧ win0_7.index t = ![0, t.val % 8] ∧ win0_8.index t = ![0, t.val % 8] ∧
    win0_9.index t = ![t.val / 8, 0, t.val % 8])

variable (c : Dev nD) (t : Fin cfg0.N)

theorem blk0 (r : Fin 2048) (k : Fin 128) : iblk m c 0 t (ix3 0 r k)
    = arg m c main_arg0 (ix3 (bOf t) r ⟨4096 + (128 * (nOf t).val + k.val), by omega⟩) := by
  blk_ext [iblk, V, idx t, bOf, nOf]

theorem blk1 (r : Fin 2048) (k : Fin 128) : iblk m c 1 t (ix3 0 r k)
    = arg m c main_arg0 (ix3 (bOf t) r ⟨5120 + (128 * (nOf t).val + k.val), by omega⟩) := by
  blk_ext [iblk, V, idx t, bOf, nOf]

theorem blk2 (j : Fin 4) (k : Fin 128) : iblk m c 2 t (ix2 j k) = arg m c main_arg1 (ix3 0 j (chan (nOf t) k)) := by
  blk_ext! [iblk, V, idx t, nOf, chan]

theorem blk3 (k : Fin 128) : iblk m c 3 t (ix2 0 k) = arg m c main_arg2 (ix2 0 (chan (nOf t) k)) := by
  blk_ext! [iblk, V, idx t, nOf, chan]

theorem blk4 (k l : Fin 128) : iblk m c 4 t (ix3 0 k l) = arg m c main_arg3 (ix4 0 (nOf t) k l) := by
  blk_ext! [iblk, V, idx t, nOf, chan]

theorem blk5 (k : Fin 128) : iblk m c 5 t (ix2 0 k) = arg m c main_arg4 (ix2 0 (chan (nOf t) k)) := by
  blk_ext! [iblk, V, idx t, nOf, chan]

theorem blk6 (k l : Fin 128) : iblk m c 6 t (ix3 0 k l) = arg m c main_arg5 (ix4 0 (nOf t) k l) := by
  blk_ext! [iblk, V, idx t, nOf, chan]

theorem blk7 (k : Fin 128) : iblk m c 7 t (ix2 0 k) = arg m c main_arg6 (ix2 0 (chan (nOf t) k)) := by
  blk_ext! [iblk, V, idx t, nOf, chan]

theorem blk8 (k : Fin 128) : iblk m c 8 t (ix2 0 k) = arg m c main_arg7 (ix2 0 (chan (nOf t) k)) := by
  blk_ext! [iblk, V, idx t, nOf, chan]

theorem cv_eq (r : Fin 2048) (k : Fin 128) : convBlk (iblk m c 0 t) (iblk m c 2 t) (iblk m c 3 t) (ix2 r k)
    = convAt (arg m c main_arg0) (arg m c main_arg1) (arg m c main_arg2) (bOf t) (nOf t) k r := by
  rw [convBlk_apply]
  unfold convAt
  congr 1
  · funext s
    exact blk0 m c t _ _
  · funext j
    exact blk2 m c t _ _
  · exact blk3 m c t _

theorem log_eq (r : Fin 2048) (l : Fin 128) :
    logDecay (gateBlk (iblk m c 0 t) (iblk m c 2 t) (iblk m c 3 t) (iblk m c 4 t) (iblk m c 5 t) (ix2 r l)) (iblk m c 8 t (ix2 0 l))
      = logAt (arg m c main_arg0) (arg m c main_arg1) (arg m c main_arg2) (arg m c main_arg3) (arg m c main_arg4)
        (arg m c main_arg7) (bOf t) (nOf t) l r := by
  rw [gateBlk_apply]
  unfold logAt gateAt
  rw [blk8, blk5]
  simp only [cv_eq, blk4]

theorem decay_eq (r : Fin 2048) (l : Fin 128) :
    decayBlk (iblk m c 0 t) (iblk m c 2 t) (iblk m c 3 t) (iblk m c 4 t) (iblk m c 5 t) (iblk m c 8 t) (ix2 r l)
      = Ideal.exp (logAt (arg m c main_arg0) (arg m c main_arg1) (arg m c main_arg2) (arg m c main_arg3) (arg m c main_arg4)
        (arg m c main_arg7) (bOf t) (nOf t) l r) := by
  rw [decayBlk_apply, log_eq]

theorem input_eq (r : Fin 2048) (l : Fin 128) :
    inputBlk (iblk m c 0 t) (iblk m c 2 t) (iblk m c 3 t) (iblk m c 4 t) (iblk m c 5 t) (iblk m c 6 t) (iblk m c 7 t) (iblk m c 8 t) (ix2 r l)
      = inAt (arg m c main_arg0) (arg m c main_arg1) (arg m c main_arg2) (arg m c main_arg3) (arg m c main_arg4)
        (arg m c main_arg5) (arg m c main_arg6) (arg m c main_arg7) (bOf t) (nOf t) l r := by
  rw [inputBlk_apply, log_eq]
  unfold inAt gateAt
  rw [blk7]
  simp only [cv_eq, blk6]

/-- The result as the closed form. -/
def outK : S4x2048x1024.Idx → EReal :=
  out (arg m c main_arg0) (arg m c main_arg1) (arg m c main_arg2) (arg m c main_arg3) (arg m c main_arg4)
        (arg m c main_arg5) (arg m c main_arg6) (arg m c main_arg7)

theorem point_eq (r : Fin 2048) (l : Fin 128) :
    outsAt0 m c t (ix3 0 r l) = outK m c (ix3 (bOf t) r (chan (nOf t) l)) := by
  rw [outsAt_eq m c t (fun i => decayBlk_nonneg _ _ _ _ _ _ i) (fun i => decayBlk_ne_top _ _ _ _ _ _ i)]
  pointwise [k0_pay73]
  have hg : grp (chan (nOf t) l) = nOf t := Fin.ext (by show (128 * _ + _) / 128 = _; omega)
  have hl : lane (chan (nOf t) l) = l := Fin.ext (by show (128 * _ + _) % 128 = _; omega)
  unfold outK out
  show _ = stAt _ _ _ _ _ _ _ _ (bOf t) (grp (chan (nOf t) l)) (lane (chan (nOf t) l)) r * _
  rw [hg, hl, blk1]
  refine congrArg₂ (· * ·) ?_ rfl
  unfold stAt states
  show reach (col _ l) (col _ l) 0 (r.val + 1) = _
  refine congrArg₂ (fun A U => reach A U 0 (r.val + 1)) (funext fun s => ?_) (funext fun s => ?_)
  · exact decay_eq m c t _ l
  · exact input_eq m c t _ l

theorem array : (dats m 0 c).arrAt 9 cfg0.N = outK m c := by
  refine (dats m 0 c).arrAt_eq_of_covers 9 _ (by decide +kernel) fun t hf y => ?_
  blk_simp
  rw [after0_9]
  obtain ⟨z, r, l, rfl⟩ : ∃ (z : Fin 1) (r : Fin 2048) (l : Fin 128), y = ix3 z r l := ⟨y 0, y 1, y 2, by pointwise []⟩
  obtain rfl : z = 0 := Subsingleton.elim _ _
  refine (point_eq m c t r l).trans (congrArg (outK m c) ?_)
  blk_ext [idx t, bOf, nOf, chan]

end Rglru

end
-- ==== Proof.RefRun.lean ====
/- What the reference's run leaves, as one trip of its scan applied 2048 times. -/
module

public import proofs.«01_k».proof.Proof.Gen.RglruRefIdeal.Run
public import proofs.«01_k».proof.Proof.Gen.RglruRefIdeal.Step

@[expose] public section

set_option maxRecDepth 16384

noncomputable section

namespace Rglru.Ref

open Idealize.ShloMosaic Idealize.ShloMosaic.TcCoe Idealize.SL.Sem Idealize.ShloMosaic.StableHlo
open Cert.RglruRefIdeal Cert.RglruRefIdeal.Gen Cert.RglruRefIdeal.Value
open Cert.RglruRefIdeal.Step (State step init)

variable {F : FTy → Type} [FloatOps F]

/-- The loop's buffers at trip `j`: the carried pair, the two scanned arrays, the counter. -/
structure At (V : Valuation τ sig (Elt F)) (s : State F) (j : ℕ) : Prop where
  carry : V (Proc.devRef .tc main_v86_3) = s.main_v86_3
  rows : V (Proc.devRef .tc main_v86_4) = s.main_v86_4
  decay : V (Proc.devRef .tc main_v86_0) = s.main_v86_0
  input : V (Proc.devRef .tc main_v86_1) = s.main_v86_1
  count : V (Proc.devRef .tc main_v86_2) = constantI S_ 32 (BitVec.ofNat 32 j)

variable {V : Valuation τ sig (Elt F)} {s : State F} {j : ℕ}

theorem At.new_h (h : At V s j) : res_main_while0b_v94 V = Step.b9 j s := by
  unfold res_main_while0b_v94 Step.b9 Step.b8 Step.b7 Step.b6 Step.b3 Step.b2
  rw [h.decay, h.carry, h.input, h.count]
  rfl

theorem At.new_carry (h : At V s j) : step_main_v86_3 V = (step j s).main_v86_3 := by
  unfold step_main_v86_3
  exact h.new_h

theorem At.new_rows (h : At V s j) : step_main_v86_4 V = (step j s).main_v86_4 := by
  unfold step_main_v86_4
  rw [h.rows, h.new_h, h.count]
  rfl

theorem At.new_count (h : At V s j) :
    step_main_v86_2 V = constantI S_ 32 (BitVec.ofNat 32 (j + 1)) := by
  unfold step_main_v86_2
  rw [h.count]
  funext i
  show BitVec.ofNat 32 j + 1#32 = _
  rw [← BitVec.ofNat_add]
  rfl

theorem At.next (h : At V s j) : At (STEP V) (step j s) (j + 1) :=
  ⟨(STEP_main_v86_3 V).trans h.new_carry, (STEP_main_v86_4 V).trans h.new_rows,
    (STEP_main_v86_0 V).trans h.decay, (STEP_main_v86_1 V).trans h.input,
    (STEP_main_v86_2 V).trans h.new_count⟩

variable (m : (ℓ : Loc nD τ sig) → Buf (Elt F) ℓ)

/-- Argument number `r` of the launch at core `c`. -/
abbrev arg (c : Dev nD) (r : Ref sig .tc) := m ((c.tc : Thread nD τ).loc r)

/-- The state before the first trip. -/
abbrev state0 (c : Dev nD) : State F :=
  init (arg m c main_arg0) (arg m c main_arg1) (arg m c main_arg2) (arg m c main_arg3) (arg m c main_arg4)
    (arg m c main_arg5) (arg m c main_arg6) (arg m c main_arg7)

/-- The state before trip `n`. -/
def states (c : Dev nD) : ℕ → State F
  | 0 => state0 m c
  | n + 1 => step n (states c n)

set_option maxRecDepth 65536 in
set_option maxHeartbeats 500000 in
theorem at_zero (c : Dev nD) : At (entryContents preI m c) (states m c 0) 0 := by
  constructor <;> (simp only [entryContents, afterL_cons, afterL_nil]; after_reads_simp) <;> rfl

theorem at_iter (c : Dev nD) : ∀ k, At (STEP^[k] (entryContents preI m c)) (states m c k) k
  | 0 => at_zero m c
  | k + 1 => by
    rw [Function.iterate_succ_apply']
    exact (at_iter c k).next

/-- The result buffer after the run, and the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v90) = Step.R_main_v90 (states m c 2048) (arg m c main_arg0)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6
      ∧ r.2.mem ((c.tc : Thread nD τ).loc main_arg7) = arg m c main_arg7 := by
  refine (θ_run defs _ _).mono (fun _ h c => ⟨(h c).1.trans ?_, (h c).2⟩) (Value.run m ρ)
  unfold out_main_v90 Step.R_main_v90
  rw [(at_iter m c 2048).rows, iter_main_arg0 m c 2048]

end Rglru.Ref

end
-- ==== Proof.RefValue.lean ====
/- The reference's result is the closed form of its arguments. -/
module

public import proofs.«01_k».proof.Proof.RefRun
public import proofs.«01_k».proof.Proof.Value
public import Idealize.ShloMosaic.Lib.Pointwise
public import Idealize.ShloMosaic.Lib.DynamicIndex

@[expose] public section

set_option maxRecDepth 16384

noncomputable section

namespace Rglru.Ref

open Idealize.ShloMosaic Idealize.ShloMosaic.TcCoe Idealize.SL.Sem Idealize.ShloMosaic.Tactic
open Cert.RglruRefIdeal Cert.RglruRefIdeal.Gen

variable (a0 : (⟨S4x2048x6144, .f32⟩ : BufTy).Contents (Elt Ideal)) (a1 : (⟨S1x4x1024, .f32⟩ : BufTy).Contents (Elt Ideal))
  (a2 : (⟨S1x1024, .f32⟩ : BufTy).Contents (Elt Ideal)) (a3 : (⟨S1x8x128x128, .f32⟩ : BufTy).Contents (Elt Ideal))
  (a4 : (⟨S1x1024, .f32⟩ : BufTy).Contents (Elt Ideal)) (a5 : (⟨S1x8x128x128, .f32⟩ : BufTy).Contents (Elt Ideal))
  (a6 a7 : (⟨S1x1024, .f32⟩ : BufTy).Contents (Elt Ideal))

theorem zero_conv : FloatOps.sitofp (F := Ideal) .f32 (0#32) = (0 : EReal) := by
  show ((((0#32 : BitVec 32).toInt : ℤ) : ℝ) : EReal) = 0
  norm_num

/-- A padded read is the value some positions back. -/
theorem padded (b : Fin 4) (n : Fin 8) (l : Fin 128) (t s k : ℕ) (ht : t < 2048) (hs : s + k = 3) (h : 3 ≤ k + t ∧ k + t - 3 < 2048 → k + t - 3 < 2048)
    (h' : 4096 + (128 * n.val + l.val) < 6144) :
    (if hh : 3 ≤ k + t ∧ k + t - 3 < 2048 then a0 (ix3 b ⟨k + t - 3, h hh⟩ ⟨4096 + (128 * n.val + l.val), h'⟩)
      else FloatOps.sitofp (F := Ideal) .f32 (0#32)) = past (xAt a0 b n l) s t := by
  unfold past
  by_cases hc : s ≤ t
  · rw [if_pos hc, dif_pos (by omega)]
    unfold xAt
    refine congrArg (fun r => a0 (ix3 b r _)) (Fin.ext ?_)
    show _ = (t - s) % 2048
    rw [Nat.mod_eq_of_lt (by omega)]
    show k + t - 3 = _
    omega
  · rw [if_neg hc, dif_neg (by omega), zero_conv]

theorem v36_apply (b : Fin 4) (t : Fin 2048) (n : Fin 8) (l : Fin 128) :
    Step.A_main_v36 a0 a1 a2 a3 a4 a5 a6 a7 (ix3 b t (chan n l)) = convAt a0 a1 a2 b n l t := by
  pointwise [Step.A_main_v0, Step.A_main_v1, Step.A_main_v2, Step.A_main_v3, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_v32, Step.A_main_v33, Step.A_main_v34, Step.A_main_v35, Step.A_main_v36, Step.K_main_call0_v0, Step.K_main_c]
  unfold convAt conv
  have e3 := padded a0 b n l t.val 3 0 t.isLt rfl (fun h => h.2) (by omega)
  have e2 := padded a0 b n l t.val 2 1 t.isLt rfl (fun h => h.2) (by omega)
  have e1 := padded a0 b n l t.val 1 2 t.isLt rfl (fun h => h.2) (by omega)
  simp only [Nat.zero_add] at e3
  refine congrArg₂ (· + ·) (congrArg₂ (· + ·) (congrArg₂ (· + ·) (congrArg₂ (· + ·) rfl (congrArg₂ (· * ·) e3 rfl))
    (congrArg₂ (· * ·) e2 rfl)) (congrArg₂ (· * ·) e1 rfl)) (congrArg₂ (· * ·) ?_ rfl)
  unfold past xAt
  rw [if_pos (Nat.zero_le _)]
  exact congrArg (fun r => a0 (ix3 b r _)) (Fin.ext (Nat.mod_eq_of_lt t.isLt).symm)

theorem v51_apply (b : Fin 4) (t : Fin 2048) (n : Fin 8) (l : Fin 128) :
    Step.A_main_v51 a0 a1 a2 a3 a4 a5 a6 a7 (ix3 b t (chan n l)) = gateAt a0 a1 a2 b n a3 a4 l t := by
  pointwise [Step.A_main_v37, Step.A_main_v38, Step.A_main_v39, Step.A_main_v40, Step.A_main_v41, Step.A_main_v42, Step.A_main_v43, Step.A_main_v44, Step.A_main_v45, Step.A_main_v46, Step.A_main_v47, Step.A_main_v49, Step.A_main_v51,  Step.K_main_v48,  Step.K_main_cst, Step.K_main_v50,  Step.K_main_cst_0]
  have hn : (chan n l).val / 128 = n.val := by show (128 * n.val + l.val) / 128 = _; omega
  have hl : (chan n l).val % 128 = l.val := by show (128 * n.val + l.val) % 128 = _; omega
  unfold gateAt gate Ideal.logistic
  refine congrArg (fun z => Ideal.div 1 (1 + Ideal.exp (-z))) (congrArg₂ (· + ·) (Finset.sum_congr rfl fun x _ => ?_) rfl)
  refine (mul_comm _ _).trans (congrArg₂ (· * ·) ((congrArg _ ?_).trans (v36_apply a0 a1 a2 a3 a4 a5 a6 a7 b t n x)) (congrArg a3 ?_))
  · exact congrArg (ix3 b t) (Fin.ext (by show (chan n l).val / 128 * 128 + x.val = 128 * n.val + x.val; rw [hn]; ring))
  · exact congrArg₂ (fun u v => ix4 0 u x v) (Fin.ext hn) (Fin.ext hl)

theorem v65_apply (b : Fin 4) (t : Fin 2048) (n : Fin 8) (l : Fin 128) :
    Step.A_main_v65 a0 a1 a2 a3 a4 a5 a6 a7 (ix3 b t (chan n l)) = gateAt a0 a1 a2 b n a5 a6 l t := by
  pointwise [Step.A_main_v52, Step.A_main_v53, Step.A_main_v54, Step.A_main_v55, Step.A_main_v56, Step.A_main_v57, Step.A_main_v58, Step.A_main_v59, Step.A_main_v60, Step.A_main_v61, Step.A_main_v63, Step.A_main_v65, Step.A_main_v37,  Step.K_main_v62,  Step.K_main_cst_1, Step.K_main_v64,  Step.K_main_cst_2]
  have hn : (chan n l).val / 128 = n.val := by show (128 * n.val + l.val) / 128 = _; omega
  have hl : (chan n l).val % 128 = l.val := by show (128 * n.val + l.val) % 128 = _; omega
  unfold gateAt gate Ideal.logistic
  refine congrArg (fun z => Ideal.div 1 (1 + Ideal.exp (-z))) (congrArg₂ (· + ·) (Finset.sum_congr rfl fun x _ => ?_) rfl)
  refine (mul_comm _ _).trans (congrArg₂ (· * ·) ((congrArg _ ?_).trans (v36_apply a0 a1 a2 a3 a4 a5 a6 a7 b t n x)) (congrArg a5 ?_))
  · exact congrArg (ix3 b t) (Fin.ext (by show (chan n l).val / 128 * 128 + x.val = 128 * n.val + x.val; rw [hn]; ring))
  · exact congrArg₂ (fun u v => ix4 0 u x v) (Fin.ext hn) (Fin.ext hl)

theorem v73_apply (b : Fin 4) (t : Fin 2048) (n : Fin 8) (l : Fin 128) :
    Step.A_main_v73 a0 a1 a2 a3 a4 a5 a6 a7 (ix3 b t (chan n l)) = logAt a0 a1 a2 a3 a4 a7 b n l t := by
  pointwise [Step.A_main_v73, Step.A_main_v67, Step.A_main_v72, Step.A_main_v71, Step.A_main_v70, Step.A_main_v68, Step.A_main_v69, Step.K_main_v66,  Step.K_main_cst_3, Step.K_main_call1_cst, Step.K_main_call1_v0, Step.K_main_call1_v2, Step.K_main_call1_v5, Step.A_main_call1_v1, Step.A_main_call1_v3, Step.A_main_call1_v4, Step.A_main_call1_v6, Step.A_main_call1_v7, Step.A_main_call1_v8, Step.A_main_call1_v9, Step.A_main_call1_v10, Step.A_main_call1_v11]
  rw [v51_apply, if_neg (fun h => h rfl)]
  rfl

theorem v83_apply (b : Fin 4) (t : Fin 2048) (n : Fin 8) (l : Fin 128) :
    Step.A_main_v83 a0 a1 a2 a3 a4 a5 a6 a7 (ix3 t b (chan n l)) = Ideal.exp (logAt a0 a1 a2 a3 a4 a7 b n l t) := by
  pointwise [Step.A_main_v83, Step.A_main_v74]
  rw [v73_apply]

theorem v84_apply (b : Fin 4) (t : Fin 2048) (n : Fin 8) (l : Fin 128) :
    Step.A_main_v84 a0 a1 a2 a3 a4 a5 a6 a7 (ix3 t b (chan n l)) = inAt a0 a1 a2 a3 a4 a5 a6 a7 b n l t := by
  pointwise [Step.A_main_v84, Step.A_main_v81, Step.A_main_v80, Step.A_main_v79, Step.A_main_v78, Step.A_main_v77, Step.A_main_v76, Step.K_main_v75, Step.K_main_cst_4]
  rw [v73_apply, v65_apply, v36_apply]
  rfl

/-- The row that one trip reads. -/
theorem row {e : EltTy} (x : S2048x4x1024.Idx → Elt Ideal e) (h) (f : Fin 3 → ℤ) (j : ℕ) (hj : j < 2048) (h0 : f 0 = j) (h1 : f 1 = 0)
    (h2 : f 2 = 0) (b : Fin 4) (c : Fin 1024) :
    Host.dynamicSlice S1x4x1024 x f h (ix3 0 b c) = x (ix3 ⟨j, hj⟩ b c) := by
  rw [Host.dynamicSlice_eq_extractStridedSlice S1x4x1024 x f ![j, 0, 0] h ⟨rfl, by
    intro a; fin_cases a
    · show j + 1 ≤ 2048; omega
    · show 0 + 4 ≤ 4; omega
    · show 0 + 1024 ≤ 1024; omega⟩ (by
    intro a; fin_cases a
    · exact h0
    · exact h1
    · exact h2)]
  pointwise []

theorem trip_word (j : ℕ) (hj : j < 2048) : (BitVec.ofNat 32 j).toInt = j := by
  unfold BitVec.toInt
  simp only [BitVec.toNat_ofNat]
  rw [Nat.mod_eq_of_lt (by omega), if_pos (by omega)]

theorem b9_apply (j : ℕ) (hj : j < 2048) (s : Step.State Ideal) (b : Fin 4) (c : Fin 1024) :
    Step.b9 j s (ix2 b c) = s.main_v86_0 (ix3 ⟨j, hj⟩ b c) * s.main_v86_3 (ix2 b c) + s.main_v86_1 (ix3 ⟨j, hj⟩ b c) := by
  have e0 := row s.main_v86_0 sliceFits_S2048x4x1024_S1x4x1024
    (fun k => ((![(constantI S_ 32 (BitVec.ofNat 32 j)), Step.b0 j s, Step.b1 j s] : Fin 3 → IVec S_ 32) k (Shape.Idx.first h_S_)).toInt)
    j hj (trip_word j hj) rfl rfl b c
  have e1 := row s.main_v86_1 sliceFits_S2048x4x1024_S1x4x1024
    (fun k => ((![(constantI S_ 32 (BitVec.ofNat 32 j)), Step.b4 j s, Step.b5 j s] : Fin 3 → IVec S_ 32) k (Shape.Idx.first h_S_)).toInt)
    j hj (trip_word j hj) rfl rfl b c
  have e2 : Step.b2 j s (ix3 0 b c) = s.main_v86_0 (ix3 ⟨j, hj⟩ b c) := e0
  have e6 : Step.b6 j s (ix3 0 b c) = s.main_v86_1 (ix3 ⟨j, hj⟩ b c) := e1
  pointwise [Step.b9, Step.b8, Step.b7, Step.b3]
  rw [e2, e6]

theorem b13_apply (j : ℕ) (hj : j < 2048) (s : Step.State Ideal) (t : Fin 2048) (b : Fin 4) (c : Fin 1024) :
    Step.b13 j s (ix3 t b c) = if t.val = j then Step.b9 j s (ix2 b c) else s.main_v86_4 (ix3 t b c) := by
  unfold Step.b13
  refine (congrFun (Host.dynamicUpdateSlice_eq_updateSlice s.main_v86_4 (Step.b10 j s) _ updateFits_S2048x4x1024_S1x4x1024 ![j, 0, 0] (by
    intro a; fin_cases a
    · show (min (max ((BitVec.ofNat 32 j).toInt) 0) ((2048 - 1 : ℕ) : ℤ)).toNat = j
      rw [trip_word j hj]; omega
    · rfl
    · rfl) ⟨rfl, by
    intro a; fin_cases a
    · show j + 1 ≤ 2048; omega
    · show 0 + 4 ≤ 4; omega
    · show 0 + 1024 ≤ 1024; omega⟩) (ix3 t b c)).trans ?_
  pointwise [Step.b10]
  by_cases h : t.val = j
  · rw [dif_pos (by omega), if_pos h]
  · rw [dif_neg (by omega), if_neg h]

variable (m : (ℓ : Loc nD τ sig) → Buf (Elt Ideal) ℓ) (c : Dev nD)

/-- The scanned arrays stay as they were before the first trip. -/
theorem states_fixed : ∀ k, (states m c k).main_v86_0 = (state0 m c).main_v86_0 ∧ (states m c k).main_v86_1 = (state0 m c).main_v86_1
  | 0 => ⟨rfl, rfl⟩
  | k + 1 => states_fixed k

/-- Rows already written hold the state after their position. -/
theorem states_rows (b : Fin 4) (d : Fin 1024) (t : Fin 2048) : ∀ k, k ≤ 2048 → t.val < k →
    (states m c k).main_v86_4 (ix3 t b d) = (states m c (t.val + 1)).main_v86_3 (ix2 b d)
  | 0 => fun _ h => absurd h (by omega)
  | k + 1 => fun hk h => by
    refine (b13_apply k (by omega) (states m c k) t b d).trans ?_
    by_cases e : t.val = k
    · rw [if_pos e, e]
      rfl
    · rw [if_neg e]
      exact states_rows b d t k (by omega) (by omega)

/-- The carried value before trip `k` is the recurrence reached after `k` positions. -/
theorem states_carry (b : Fin 4) (n : Fin 8) (l : Fin 128) (k : ℕ) (hk : k ≤ 2048) :
    (states m c k).main_v86_3 (ix2 b (chan n l))
      = reach (fun s => Ideal.exp (logAt (arg m c main_arg0) (arg m c main_arg1) (arg m c main_arg2) (arg m c main_arg3)
          (arg m c main_arg4) (arg m c main_arg7) b n l (Fin.ofNat 2048 s)))
        (fun s => inAt (arg m c main_arg0) (arg m c main_arg1) (arg m c main_arg2) (arg m c main_arg3) (arg m c main_arg4)
          (arg m c main_arg5) (arg m c main_arg6) (arg m c main_arg7) b n l (Fin.ofNat 2048 s)) 0 k := by
  refine eq_reach _ (fun k => (states m c k).main_v86_3 (ix2 b (chan n l))) ?_ 2048 (fun k hk => ?_) k hk
  · show Step.K_main_v82 (F := Ideal) (ix2 b (chan n l)) = 0
    pointwise [Step.K_main_v82, Step.K_main_cst_5]
  · have hf : Fin.ofNat 2048 k = ⟨k, hk⟩ := Fin.ext (Nat.mod_eq_of_lt hk)
    refine (b9_apply k hk (states m c k) b (chan n l)).trans ?_
    rw [(states_fixed m c k).1, (states_fixed m c k).2, hf]
    exact congrArg₂ (· + ·) (congrArg₂ (· * ·) (v83_apply _ _ _ _ _ _ _ _ b ⟨k, hk⟩ n l) rfl) (v84_apply _ _ _ _ _ _ _ _ b ⟨k, hk⟩ n l)

/-- The reference's result is the closed form. -/
theorem value : Step.R_main_v90 (states m c 2048) (arg m c main_arg0)
    = out (arg m c main_arg0) (arg m c main_arg1) (arg m c main_arg2) (arg m c main_arg3) (arg m c main_arg4)
        (arg m c main_arg5) (arg m c main_arg6) (arg m c main_arg7) := by
  funext i
  obtain ⟨b, t, d, rfl⟩ : ∃ (b : Fin 4) (t : Fin 2048) (d : Fin 1024), i = ix3 b t d := ⟨i 0, i 1, i 2, by pointwise []⟩
  have hd : chan (grp d) (lane d) = d := Fin.ext (by show 128 * (d.val / 128) + d.val % 128 = d.val; omega)
  pointwise [Step.R_main_v90]
  rw [states_rows m c b d t 2048 le_rfl t.isLt]
  have h := states_carry m c b (grp d) (lane d) (t.val + 1) t.isLt
  rw [hd] at h
  rw [h]
  rfl

end Rglru.Ref

end
-- ==== Proof.RglruClaims.lean ====
/- The claims about the RG-LRU call: both ends of the algebraic claim are the closed form `Rglru.out`. -/
module

public import proofs.«01_k».proof.Defs
public import proofs.«01_k».proof.Proof.Gen.Rglru
public import proofs.«01_k».proof.Proof.Gen.Rglru.Frame
public import proofs.«01_k».proof.Proof.Gen.RglruRefIdeal
public import proofs.«01_k».proof.Proof.Kern
public import proofs.«01_k».proof.Proof.RefValue

@[expose] public section

noncomputable section

namespace Rglru

open Idealize.ShloMosaic Idealize.SL.Sem

/-- The reference runs, keeps its arguments and leaves every counter at zero. -/
theorem frame_ref : Cert.quiescent_RglruRefIdeal := fun m ρ _ =>
  (θ_run Cert.RglruRefIdeal.defs _ _).mono
    (fun r h => ⟨fun c => (h c).2, sem_eq_zero_of_no_sems (by decide) r.2⟩) (Ref.run m ρ)

/-- Kernel and reference end with the same array. -/
theorem algebraic : Cert.algebraic_RglruIdeal_RglruRefIdeal := by
  intro m ρ m' ρ' _ hagree
  refine ⟨fun c => outK m c, ?_, ?_⟩
  · exact (θ_run _ _ _).mono (fun _ h c => ⟨(h c).1.trans (array m c), (h c).2⟩) (Cert.RglruIdeal.Value.run_blocks m ρ)
  · refine (θ_run _ _ _).mono (fun _ h c => ⟨(h c).1.trans ((Ref.value m' c).trans ?_), (h c).2⟩) (Ref.run m' ρ')
    obtain ⟨h0, h1, h2, h3, h4, h5, h6, h7⟩ := hagree c
    unfold outK Ref.arg arg
    rw [h0, h1, h2, h3, h4, h5, h6, h7]

end Rglru

end
-- ==== Proof.Layer.lean ====
/- Rows of a layer's end: the normalisation and the gated residual, as plain functions of a row. -/
module

public import Idealize.ShloMosaic.Lib.Pointwise

@[expose] public section

set_option maxRecDepth 16384

noncomputable section

namespace Layer

open Idealize.ShloMosaic

/-- The sequence of a row. -/
def seqOf (r : Fin 8192) : Fin 4 := ⟨r.val / 2048, by omega⟩
/-- The place of a row in its sequence. -/
def posOf (r : Fin 8192) : Fin 2048 := ⟨r.val % 2048, by omega⟩

/-- The mean square of a row of 2048 entries, plus the printed offset. -/
def meanSq (x : Fin 2048 → EReal) : EReal :=
  Ideal.div (∑ k, x k * x k) (FloatOps.ofBits (F := Ideal) .f32 0x45000000#32) + FloatOps.ofBits (F := Ideal) .f32 0x358637BD#32

/-- A row divided by its root mean square, times the gain. -/
def rms (x g : Fin 2048 → EReal) (j : Fin 2048) : EReal := x j * Ideal.rsqrt (meanSq x) * g j

/-- The residual row `h` plus the gate of the row times the normalised embedding row. -/
def gated (h e g : Fin 2048 → EReal) (w : Fin 2048 → Fin 2048 → EReal) (j : Fin 2048) : EReal :=
  h j + Ideal.logistic (∑ k, h k * w k j) * rms e g j

end Layer

end
-- ==== Proof.FinalKern.lean ====
/- The last layer's end: what the kernel's payloads read at an index. -/
module

public import proofs.«01_k».proof.Proof.Layer
public import proofs.«01_k».proof.Proof.Gen.OutFinalIdeal.Value
public import Idealize.ShloMosaic.Lib.Pointwise
public import Idealize.ShloMosaic.Lib.Pipeline.ValueKit

@[expose] public section

set_option maxRecDepth 16384

noncomputable section

namespace Final

open Idealize.ShloMosaic Idealize.ShloMosaic.TcCoe Idealize.SL.Sem Idealize.ShloMosaic.Tactic
open Cert.OutFinalIdeal Cert.OutFinalIdeal.Gen Layer
open Idealize.ShloMosaic.Pipeline (Dat)

theorem pay2_apply (a b x) (r : Fin 256) (j : Fin 2048) :
    k0_pay2 (F := Ideal) a b x (ix2 r j) = x (ix2 r j) + ∑ k, a (ix2 r k) * b (ix2 k j) := by
  pointwise [k0_pay2]

theorem pay5_apply (a b x) (r : Fin 256) (j : Fin 2048) :
    k0_pay5 (F := Ideal) a b x (ix2 r j) = x (ix2 r j) + ∑ k, a (ix2 r k) * b (ix2 k j) := by
  pointwise [k0_pay5]

theorem pay3_apply (a b) (r : Fin 256) (j : Fin 2048) :
    k0_pay3 (F := Ideal) a b (ix2 r j) = ∑ k, a (ix3 0 r k) * b (ix3 0 k j) := by
  pointwise [k0_pay3]

theorem pay8_apply (a b z) (r : Fin 256) (j : Fin 2048) :
    k0_pay8 (F := Ideal) a b z (ix2 r j) = z (ix2 r j) + ∑ k, b (ix2 r k) * a (ix2 k j) := by
  pointwise [k0_pay8]

theorem pay6_apply (a) (k : Fin 256) (j : Fin 2048) : k0_pay6 (F := Ideal) a (ix2 k j) = a (ix3 0 k j) := by
  pointwise [k0_pay6]

theorem pay7_apply (a) (k : Fin 256) (j : Fin 256) : k0_pay7 (F := Ideal) a (ix2 k j) = a (ix3 0 k j) := by
  pointwise [k0_pay7]

theorem pay4_apply (a b x w) (r : Fin 256) (j : Fin 2048) :
    k0_pay4 (F := Ideal) a b x w (ix2 r j) = ∑ k, k0_pay2 (F := Ideal) a b x (ix2 r k) * w (ix3 0 k j) := by
  pointwise [k0_pay4]

theorem pay9_apply (x w) (r : Fin 256) (j : Fin 2048) :
    k0_pay9 (F := Ideal) x w (ix2 r j) = ∑ k, x (ix2 r k) * w (ix3 0 k j) := by
  pointwise [k0_pay9]

theorem pay10_apply (h e s g f) (r : Fin 256) (j : Fin 2048) :
    k0_pay10 (F := Ideal) h e s g f (ix2 r j) = rms (fun q => h (ix2 r q) + Ideal.logistic (s (ix2 r q)) * rms (fun k => e (ix2 r k)) (fun k => g (ix2 0 k)) q)
      (fun k => f (ix2 0 k)) j := by
  pointwise [k0_pay10]
  simp only [rms, meanSq]
  rfl

theorem pay1_apply (h e s g f) (a b z) (r : Fin 256) (j : Fin 2048) (he : k0_pay8 (F := Ideal) a b z = e) :
    k0_pay1 (F := Ideal) h e s (k0_pay11 a b z) k0_pay12 g f (ix2 r j) = rms (fun q => h (ix2 r q) + Ideal.logistic (s (ix2 r q)) * rms (fun k => e (ix2 r k)) (fun k => g (ix2 0 k)) q)
      (fun k => f (ix2 0 k)) j := by
  subst he
  pointwise [k0_pay1, k0_pay11, k0_pay12]
  simp only [rms, meanSq]
  rfl

variable (x0 : Vec Ideal S512x2048 .f32) (x1 : Vec Ideal S512x2048 .bf16) (x2 : Vec Ideal S2048x2048 .bf16) (x3 : Vec Ideal S1x512x256 .f32)
  (x4 : Vec Ideal S1x256x2048 .bf16) (x5 : Vec Ideal S1x2048 .f32) (x6 : Vec Ideal S1x2048x2048 .bf16) (x7 : Vec Ideal S1x2048 .f32)

/-- One row of the block the kernel leaves. -/
def blockRow (r : Fin 512) : Fin 2048 → EReal :=
  rms (gated (fun q => x0 (ix2 r q) + ∑ k : Fin 2048, x1 (ix2 r k) * x2 (ix2 k q)) (fun q => ∑ k : Fin 256, x3 (ix3 0 r k) * x4 (ix3 0 k q))
    (fun k => x5 (ix2 0 k)) (fun k j => x6 (ix3 0 k j))) (fun k => x7 (ix2 0 k))

theorem out_apply (y : S512x2048.Idx) : out0_8 x0 x1 x2 x3 x4 x5 x6 x7 y = blockRow x0 x1 x2 x3 x4 x5 x6 x7 (y 0) (y 1) := by
  unfold out0_8
  refine View.canon_apply_of_pieces (Val := Elt Ideal) (e := .f32) (fun y => blockRow x0 x1 x2 x3 x4 x5 x6 x7 (y 0) (y 1)) _ ?_ y (cover0_8 _ _ y)
  intro p hp
  simp only [List.mem_cons, List.not_mem_nil, or_false] at hp
  rcases hp with rfl | rfl
  · intro z
    obtain ⟨r, j, rfl⟩ : ∃ (r : Fin 256) (j : Fin 2048), z = ix2 r j := ⟨z 0, z 1, by pointwise []⟩
    refine (pay1_apply _ _ _ _ _ _ _ _ r j rfl).trans ?_
    unfold blockRow gated
    have e0 : r0_2.emb (ix2 r j) 0 = (⟨256 + r.val, by omega⟩ : Fin 512) := Fin.ext (by show 256 + 1 * r.val = 256 + r.val; omega)
    have e1 : r0_2.emb (ix2 r j) 1 = j := Fin.ext (by show 0 + 1 * j.val = _; omega)
    rw [e0, e1]
    pointwise [pay5_apply, pay9_apply, pay8_apply, pay6_apply, pay7_apply, k0_pay13, k0_pay14, k0_pay15, k0_pay16]
  · intro z
    obtain ⟨r, j, rfl⟩ : ∃ (r : Fin 256) (j : Fin 2048), z = ix2 r j := ⟨z 0, z 1, by pointwise []⟩
    refine (pay10_apply _ _ _ _ _ r j).trans ?_
    unfold blockRow gated
    have e0 : r0_0.emb (ix2 r j) 0 = (⟨r.val, by omega⟩ : Fin 512) := Fin.ext (by show 0 + 1 * r.val = r.val; omega)
    have e1 : r0_0.emb (ix2 r j) 1 = j := Fin.ext (by show 0 + 1 * j.val = _; omega)
    rw [e0, e1]
    pointwise [pay2_apply, pay3_apply, pay4_apply]

variable (m : (ℓ : Loc nD τ sig) → Buf (Elt Ideal) ℓ)

/-- Argument `r` as launched. -/
abbrev arg (c : Dev nD) (r : Ref sig .tc) := m ((c : Thread nD τ).loc r)

/-- One row of the result, of the arguments. -/
def finalRow (a0 : (⟨S8192x2048, .f32⟩ : BufTy).Contents (Elt Ideal)) (a1 : (⟨S4x2048x2048, .bf16⟩ : BufTy).Contents (Elt Ideal))
    (a2 : (⟨S2048x2048, .bf16⟩ : BufTy).Contents (Elt Ideal)) (a3 : (⟨S2x4x2048x256, .f32⟩ : BufTy).Contents (Elt Ideal))
    (a4 : (⟨S2x256x2048, .bf16⟩ : BufTy).Contents (Elt Ideal)) (a5 : (⟨S2x2048, .f32⟩ : BufTy).Contents (Elt Ideal))
    (a6 : (⟨S2x2048x2048, .bf16⟩ : BufTy).Contents (Elt Ideal)) (a7 : (⟨S2048, .f32⟩ : BufTy).Contents (Elt Ideal)) (r : Fin 8192) : Fin 2048 → EReal :=
  rms (gated (fun q => a0 (ix2 r q) + ∑ k : Fin 2048, a1 (ix3 (seqOf r) (posOf r) k) * a2 (ix2 k q))
    (fun q => ∑ k : Fin 256, a3 (ix4 1 (seqOf r) (posOf r) k) * a4 (ix3 1 k q))
    (fun k => a5 (ix2 1 k)) (fun k j => a6 (ix3 1 k j))) (fun k => a7 (ix1 k))

theorem idx : ∀ t : Fin cfg0.N, win0_0.index t = ![t.val, 0] ∧ win0_1.index t = ![t.val, 0] ∧ win0_2.index t = ![0, 0] ∧
    win0_3.index t = ![1, t.val, 0] ∧ win0_4.index t = ![1, 0, 0] ∧ win0_5.index t = ![0, 0] ∧
    win0_6.index t = ![1, 0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![0, 0] ∧
    win0_3.index t = ![1, t.val, 0] ∧ win0_4.index t = ![1, 0, 0] ∧ win0_5.index t = ![0, 0] ∧
    win0_6.index t = ![1, 0, 0] ∧ win0_7.index t = ![0, 0] ∧ win0_8.index t = ![t.val, 0])

variable (c : Dev nD) (t : Fin cfg0.N)

/-- The array row of a block row. -/
def rowOf (r : Fin 512) : Fin 8192 := ⟨512 * t.val + r.val, by have := t.isLt; change _ < 16 at this; omega⟩

theorem blk0 (r : Fin 512) (k : Fin 2048) : iblk m c 0 t (ix2 r k) = arg m c main_arg0 (ix2 (rowOf t r) k) := by
  blk_ext [iblk, V, idx t, rowOf]

theorem blk1 (r : Fin 512) (k : Fin 2048) : iblk m c 1 t (ix2 r k) = arg m c main_arg1 (ix3 (seqOf (rowOf t r)) (posOf (rowOf t r)) k) := by
  blk_ext! [iblk, V, idx t, rowOf, seqOf, posOf]

theorem blk2 (k j : Fin 2048) : iblk m c 2 t (ix2 k j) = arg m c main_arg2 (ix2 k j) := by
  blk_ext [iblk, V, idx t]

theorem blk3 (r : Fin 512) (k : Fin 256) : iblk m c 3 t (ix3 0 r k) = arg m c main_arg3 (ix4 1 (seqOf (rowOf t r)) (posOf (rowOf t r)) k) := by
  blk_ext! [iblk, V, idx t, rowOf, seqOf, posOf]

theorem blk4 (k : Fin 256) (j : Fin 2048) : iblk m c 4 t (ix3 0 k j) = arg m c main_arg4 (ix3 1 k j) := by
  blk_ext [iblk, V, idx t]

theorem blk5 (k : Fin 2048) : iblk m c 5 t (ix2 0 k) = arg m c main_arg5 (ix2 1 k) := by
  blk_ext! [iblk, V, idx t]

theorem blk6 (k j : Fin 2048) : iblk m c 6 t (ix3 0 k j) = arg m c main_arg6 (ix3 1 k j) := by
  blk_ext [iblk, V, idx t]

theorem blk7 (k : Fin 2048) : iblk m c 7 t (ix2 0 k) = arg m c main_arg7 (ix1 k) := by
  blk_ext! [iblk, V, idx t]

/-- The result as the closed form. -/
def outK : S8192x2048.Idx → EReal := fun y =>
  finalRow (arg m c main_arg0) (arg m c main_arg1) (arg m c main_arg2) (arg m c main_arg3) (arg m c main_arg4) (arg m c main_arg5)
    (arg m c main_arg6) (arg m c main_arg7) (y 0) (y 1)

theorem row_eq (r : Fin 512) : blockRow (iblk m c 0 t) (iblk m c 1 t) (iblk m c 2 t) (iblk m c 3 t) (iblk m c 4 t) (iblk m c 5 t) (iblk m c 6 t) (iblk m c 7 t) r
    = finalRow (arg m c main_arg0) (arg m c main_arg1) (arg m c main_arg2) (arg m c main_arg3) (arg m c main_arg4) (arg m c main_arg5)
    (arg m c main_arg6) (arg m c main_arg7) (rowOf t r) := by
  unfold blockRow finalRow
  simp only [blk0, blk1, blk2, blk3, blk4, blk5, blk6, blk7]

theorem point_eq (r : Fin 512) (l : Fin 2048) :
    out0_8 (iblk m c 0 t) (iblk m c 1 t) (iblk m c 2 t) (iblk m c 3 t) (iblk m c 4 t) (iblk m c 5 t) (iblk m c 6 t) (iblk m c 7 t) (ix2 r l)
      = outK m c (ix2 (rowOf t r) l) := by
  rw [out_apply]
  exact congrFun (row_eq m c t r) l

theorem array : (dats m 0 c).arrAt 8 cfg0.N = outK m c := by
  refine (dats m 0 c).arrAt_eq_of_covers 8 _ (by decide +kernel) fun t hf y => ?_
  blk_simp
  rw [after0_8]
  obtain ⟨r, l, rfl⟩ : ∃ (r : Fin 512) (l : Fin 2048), y = ix2 r l := ⟨y 0, y 1, by pointwise []⟩
  refine (point_eq m c t r l).trans (congrArg (outK m c) ?_)
  blk_ext [idx t, rowOf]

end Final

end
-- ==== Proof.FinalRef.lean ====
/- The last layer's end: the reference's result is the same closed form. -/
module

public import proofs.«01_k».proof.Proof.FinalKern
public import proofs.«01_k».proof.Proof.Gen.OutFinalRefIdeal.Run
public import Idealize.ShloMosaic.Lib.Pointwise

@[expose] public section

set_option maxRecDepth 16384

noncomputable section

namespace Final.Ref

open Idealize.ShloMosaic Idealize.ShloMosaic.TcCoe Idealize.SL.Sem Idealize.ShloMosaic.Tactic Idealize.ShloMosaic.StableHlo
open Cert.OutFinalRefIdeal Cert.OutFinalRefIdeal.Gen Layer

/-- The root mean square normalisation of every row, times the gain, as the program writes it. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem norm_apply (x : FVec Ideal S8192x2048 .f32) (g : FVec Ideal S2048 .f32) (r : Fin 8192) (l : Fin 2048) :
    norm x g (ix2 r l) = rms (fun k => x (ix2 r k)) (fun k => g (ix1 k)) l := by
  pointwise [norm]
  simp only [rms, meanSq]
  rfl

/-- The logistic gate of every entry of a product, as the program writes it. -/
def gate (x : FVec Ideal S8192x2048 .f32) (w : FVec Ideal S2048x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32))
    (Host.exp (Host.negf (Host.dotGeneral dot_S8192x2048_S2048x2048_S8192x2048_1_0_0_1_n_n none x w))))

theorem gate_apply (x : FVec Ideal S8192x2048 .f32) (w : FVec Ideal S2048x2048 .f32) (r : Fin 8192) (l : Fin 2048) :
    gate x w (ix2 r l) = Ideal.logistic (∑ k, x (ix2 r k) * w (ix2 k l)) := by
  pointwise [gate]
  rfl

/-- The residual plus the gated embedding. -/
def close (x : FVec Ideal S8192x2048 .f32) (w : FVec Ideal S2048x2048 .f32) (e : FVec Ideal S8192x2048 .f32) (g : FVec Ideal S2048 .f32) :
    FVec Ideal S8192x2048 .f32 := addf x (mulf (gate x w) (norm e g))

theorem close_apply (x : FVec Ideal S8192x2048 .f32) (w : FVec Ideal S2048x2048 .f32) (e : FVec Ideal S8192x2048 .f32) (g : FVec Ideal S2048 .f32)
    (r : Fin 8192) (l : Fin 2048) :
    close x w e g (ix2 r l) = gated (fun k => x (ix2 r k)) (fun k => e (ix2 r k)) (fun k => g (ix1 k)) (fun k j => w (ix2 k j)) l := by
  pointwise [close, norm_apply, gate_apply]
  rfl

/-- The embedding rows of this layer's slot, projected. -/
def emb (p : FVec Ideal S2x4x2048x256 .f32) (w : FVec Ideal S2x256x2048 .bf16) : FVec Ideal S8192x2048 .f32 :=
  Host.dotGeneral dot_S8192x256_S256x2048_S8192x2048_1_0_0_1_n_n none
    (shapeCast _ (shapeCast _ (extractStridedSlice S1x4x2048x256 ![1, 0, 0, 0] p slices_S2x4x2048x256_S1x4x2048x256_1_0_0_0) shapeCasts_S1x4x2048x256_S4x2048x256) shapeCasts_S4x2048x256_S8192x256)
    (extf .f32 (shapeCast _ (extractStridedSlice S1x256x2048 ![1, 0, 0] w slices_S2x256x2048_S1x256x2048_1_0_0) shapeCasts_S1x256x2048_S256x2048) bitsLt_bf16_f32)

theorem emb_apply (p : FVec Ideal S2x4x2048x256 .f32) (w : FVec Ideal S2x256x2048 .bf16) (r : Fin 8192) (l : Fin 2048) :
    emb p w (ix2 r l) = ∑ k : Fin 256, p (ix4 1 (seqOf r) (posOf r) k) * w (ix3 1 k l) := by
  pointwise [emb]
  rfl

/-- This layer's gate weights. -/
def gateW (w : FVec Ideal S2x2048x2048 .bf16) : FVec Ideal S2048x2048 .f32 :=
  extf .f32 (shapeCast _ (extractStridedSlice S1x2048x2048 ![1, 0, 0] w slices_S2x2048x2048_S1x2048x2048_1_0_0) shapeCasts_S1x2048x2048_S2048x2048) bitsLt_bf16_f32

theorem gateW_apply (w : FVec Ideal S2x2048x2048 .bf16) (k l : Fin 2048) : gateW w (ix2 k l) = w (ix3 1 k l) := by
  pointwise [gateW]

/-- This layer's embedding gain. -/
def gain (g : FVec Ideal S2x2048 .f32) : FVec Ideal S2048 .f32 :=
  shapeCast _ (extractStridedSlice S1x2048 ![1, 0] g slices_S2x2048_S1x2048_1_0) shapeCasts_S1x2048_S2048

theorem gain_apply (g : FVec Ideal S2x2048 .f32) (k : Fin 2048) : gain g (ix1 k) = g (ix2 1 k) := by
  pointwise [gain]

/-- The residual plus the projected mixer output. -/
def resid (h : FVec Ideal S8192x2048 .f32) (y : FVec Ideal S4x2048x2048 .bf16) (w : FVec Ideal S2048x2048 .bf16) : FVec Ideal S8192x2048 .f32 :=
  addf h (Host.dotGeneral dot_S8192x2048_S2048x2048_S8192x2048_1_0_0_1_n_n none (shapeCast _ (extf .f32 y bitsLt_bf16_f32) shapeCasts_S4x2048x2048_S8192x2048) (extf .f32 w bitsLt_bf16_f32))

theorem resid_apply (h : FVec Ideal S8192x2048 .f32) (y : FVec Ideal S4x2048x2048 .bf16) (w : FVec Ideal S2048x2048 .bf16) (r : Fin 8192) (l : Fin 2048) :
    resid h y w (ix2 r l) = h (ix2 r l) + ∑ k : Fin 2048, y (ix3 (seqOf r) (posOf r) k) * w (ix2 k l) := by
  pointwise [resid]
  rfl

/-- The whole program's result. -/
def whole (a0 : FVec Ideal S8192x2048 .f32) (a1 : FVec Ideal S4x2048x2048 .bf16) (a2 : FVec Ideal S2048x2048 .bf16) (a3 : FVec Ideal S2x4x2048x256 .f32)
    (a4 : FVec Ideal S2x256x2048 .bf16) (a5 : FVec Ideal S2x2048 .f32) (a6 : FVec Ideal S2x2048x2048 .bf16) (a7 : FVec Ideal S2048 .f32) : FVec Ideal S8192x2048 .f32 :=
  norm (close (resid a0 a1 a2) (gateW a6) (emb a3 a4) (gain a5)) a7

theorem whole_apply (a0 : FVec Ideal S8192x2048 .f32) (a1 : FVec Ideal S4x2048x2048 .bf16) (a2 : FVec Ideal S2048x2048 .bf16) (a3 : FVec Ideal S2x4x2048x256 .f32)
    (a4 : FVec Ideal S2x256x2048 .bf16) (a5 : FVec Ideal S2x2048 .f32) (a6 : FVec Ideal S2x2048x2048 .bf16) (a7 : FVec Ideal S2048 .f32) (r : Fin 8192) (l : Fin 2048) :
    whole a0 a1 a2 a3 a4 a5 a6 a7 (ix2 r l) = finalRow a0 a1 a2 a3 a4 a5 a6 a7 r l := by
  unfold whole finalRow
  simp only [norm_apply, close_apply, resid_apply, emb_apply, gateW_apply, gain_apply]

variable (m : (ℓ : Loc nD τ sig) → Buf (Elt Ideal) ℓ) (c : Dev nD)

theorem value : Value.res_out0 m c = fun y => finalRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) := by
  have e : Value.res_out0 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    unfold Value.res_out0 Value.res_main_v51 whole norm close gate resid emb gateW gain
    rfl
  rw [e]
  funext y
  obtain ⟨r, l, rfl⟩ : ∃ (r : Fin 8192) (l : Fin 2048), y = ix2 r l := ⟨y 0, y 1, by pointwise []⟩
  exact whole_apply _ _ _ _ _ _ _ _ r l

end Final.Ref

end
-- ==== Proof.FinalClaims.lean ====
/- The claims about the call that ends the last layer. -/
module

public import proofs.«01_k».proof.Defs
public import proofs.«01_k».proof.Proof.Gen.OutFinal
public import proofs.«01_k».proof.Proof.Gen.OutFinal.Frame
public import proofs.«01_k».proof.Proof.Gen.OutFinalRefIdeal
public import proofs.«01_k».proof.Proof.FinalKern
public import proofs.«01_k».proof.Proof.FinalRef

@[expose] public section

set_option maxRecDepth 16384

noncomputable section

namespace Final

open Idealize.ShloMosaic Idealize.SL.Sem

/-- The reference runs, keeps its arguments and leaves every counter at zero. -/
theorem frame_ref : Cert.quiescent_OutFinalRefIdeal := fun m ρ _ =>
  (θ_run Cert.OutFinalRefIdeal.defs _ _).mono
    (fun r h => ⟨fun c => (h c).2, sem_eq_zero_of_no_sems (by decide) r.2⟩) (Cert.OutFinalRefIdeal.Value.run m ρ)

/-- Kernel and reference end with the same array. -/
theorem algebraic : Cert.algebraic_OutFinalIdeal_OutFinalRefIdeal := by
  intro m ρ m' ρ' _ hagree
  refine ⟨fun c => outK m c, ?_, ?_⟩
  · exact (θ_run _ _ _).mono (fun _ h c => ⟨(h c).1.trans (array m c), (h c).2⟩) (Cert.OutFinalIdeal.Value.run_blocks m ρ)
  · refine (θ_run _ _ _).mono (fun _ h c => ⟨(h c).1.trans ((Ref.value m' c).trans ?_), (h c).2⟩) (Cert.OutFinalRefIdeal.Value.run m' ρ')
    obtain ⟨h0, h1, h2, h3, h4, h5, h6, h7⟩ := hagree c
    unfold outK arg
    rw [h0, h1, h2, h3, h4, h5, h6, h7]
    rfl

end Final

end
-- ==== Proof.EvenKern.lean ====
/- The even layer's end: the kernel's two result arrays are closed forms of its arguments. -/
module

public import proofs.«01_k».proof.Proof.Layer
public import proofs.«01_k».proof.Proof.Gen.OutEvenIdeal.Value
public import Idealize.ShloMosaic.Lib.Pointwise
public import Idealize.ShloMosaic.Lib.Pipeline.ValueKit

@[expose] public section

set_option maxRecDepth 16384

noncomputable section

namespace Even

open Idealize.ShloMosaic Idealize.ShloMosaic.TcCoe Idealize.SL.Sem Idealize.ShloMosaic.Tactic
open Cert.OutEvenIdeal Cert.OutEvenIdeal.Gen Layer
open Idealize.ShloMosaic.Pipeline (Dat)

theorem pay2_apply (a b x w) (r : Fin 256) (j : Fin 2048) :
    k0_pay2 (F := Ideal) a b x w (ix2 r j) = (∑ k, a (ix2 r k) * b (ix2 k j)) + ∑ k, x (ix2 r k) * w (ix2 k j) := by
  pointwise [k0_pay2]

theorem pay3_apply (a b x w h) (r : Fin 256) (j : Fin 2048) :
    k0_pay3 (F := Ideal) a b x w h (ix2 r j) = h (ix2 r j) + ((∑ k, a (ix2 r k) * b (ix2 k j)) + ∑ k, x (ix2 r k) * w (ix2 k j)) := by
  pointwise [k0_pay3]

theorem pay5_apply (s h) (r : Fin 256) (j : Fin 2048) : k0_pay5 (F := Ideal) s h (ix2 r j) = h (ix2 r j) + s (ix2 r j) := by
  pointwise [k0_pay5]

theorem pay4_apply (a b) (r : Fin 256) (j : Fin 2048) :
    k0_pay4 (F := Ideal) a b (ix2 r j) = ∑ k, a (ix3 0 r k) * b (ix3 0 k j) := by
  pointwise [k0_pay4]

theorem pay6_apply (a b) (r : Fin 256) (j : Fin 2048) :
    k0_pay6 (F := Ideal) a b (ix2 r j) = ∑ k, a (ix3 0 r k) * b (ix3 0 k j) := by
  pointwise [k0_pay6]

theorem pay7_apply (s h w) (r : Fin 256) (j : Fin 2048) :
    k0_pay7 (F := Ideal) s h w (ix2 r j) = ∑ k, k0_pay5 (F := Ideal) s h (ix2 r k) * w (ix3 0 k j) := by
  pointwise [k0_pay7]

theorem pay8_apply (h e w g) (r : Fin 256) (j : Fin 2048) :
    k0_pay8 (F := Ideal) h e w g (ix2 r j) = gated (fun q => h (ix2 r q)) (fun k => e (ix2 r k)) (fun k => g (ix2 0 k)) (fun k j => w (ix3 0 k j)) j := by
  pointwise [k0_pay8]
  simp only [gated, rms, meanSq]
  rfl

theorem pay12_apply (h e s g) (r : Fin 256) (j : Fin 2048) :
    k0_pay12 (F := Ideal) h e s g (ix2 r j) = h (ix2 r j) + Ideal.logistic (s (ix2 r j)) * rms (fun k => e (ix2 r k)) (fun k => g (ix2 0 k)) j := by
  pointwise [k0_pay12]
  simp only [rms, meanSq]
  rfl

theorem pay11_apply (h e w g f) (z) (hz : k0_pay8 (F := Ideal) h e w g = z) (r : Fin 256) (j : Fin 2048) :
    k0_pay11 (F := Ideal) z (k0_pay9 h e w g) k0_pay10 f (ix2 r j) = rms (fun k => z (ix2 r k)) (fun k => f (ix2 0 k)) j := by
  subst hz
  pointwise [k0_pay11, k0_pay9, k0_pay10]
  simp only [rms, meanSq]
  rfl

theorem pay13_apply (h e s g f) (r : Fin 256) (j : Fin 2048) :
    k0_pay1 (F := Ideal) (k0_pay13 h e s g f) (ix2 r j) = rms (fun k => k0_pay12 (F := Ideal) h e s g (ix2 r k)) (fun k => f (ix2 0 k)) j := by
  pointwise [k0_pay1, k0_pay13]
  simp only [rms, meanSq]
  rfl

/-- One row of the first block the kernel leaves. -/
def blockRow (x0 : Vec Ideal S512x2048 .f32) (x1 x2 : Vec Ideal S512x1024 .bf16) (x3 x4 : Vec Ideal S1024x2048 .bf16) (x5 : Vec Ideal S1x512x256 .f32)
  (x6 : Vec Ideal S1x256x2048 .bf16) (x7 : Vec Ideal S1x2048 .f32) (x8 : Vec Ideal S1x2048x2048 .bf16) (x9 : Vec Ideal S1x2048 .f32) (r : Fin 512) : Fin 2048 → EReal :=
  gated (fun q => x0 (ix2 r q) + ((∑ k : Fin 1024, x1 (ix2 r k) * x3 (ix2 k q)) + ∑ k : Fin 1024, x2 (ix2 r k) * x4 (ix2 k q)))
    (fun q => ∑ k : Fin 256, x5 (ix3 0 r k) * x6 (ix3 0 k q)) (fun k => x7 (ix2 0 k)) (fun k j => x8 (ix3 0 k j))

/-- One row of the second block the kernel leaves: the first one normalised. -/
def normRow (x0 : Vec Ideal S512x2048 .f32) (x1 x2 : Vec Ideal S512x1024 .bf16) (x3 x4 : Vec Ideal S1024x2048 .bf16) (x5 : Vec Ideal S1x512x256 .f32)
  (x6 : Vec Ideal S1x256x2048 .bf16) (x7 : Vec Ideal S1x2048 .f32) (x8 : Vec Ideal S1x2048x2048 .bf16) (x9 : Vec Ideal S1x2048 .f32) (r : Fin 512) : Fin 2048 → EReal := rms (blockRow x0 x1 x2 x3 x4 x5 x6 x7 x8 x9 r) (fun k => x9 (ix2 0 k))

variable (x0 : Vec Ideal S512x2048 .f32) (x1 x2 : Vec Ideal S512x1024 .bf16) (x3 x4 : Vec Ideal S1024x2048 .bf16) (x5 : Vec Ideal S1x512x256 .f32)
  (x6 : Vec Ideal S1x256x2048 .bf16) (x7 : Vec Ideal S1x2048 .f32) (x8 : Vec Ideal S1x2048x2048 .bf16) (x9 : Vec Ideal S1x2048 .f32)

theorem low_apply (r : Fin 256) (j : Fin 2048) :
    k0_pay20 x0 x1 x2 x3 x4 x5 x6 x7 x8 x9 (ix2 r j) = blockRow x0 x1 x2 x3 x4 x5 x6 x7 x8 x9 ⟨r.val, by omega⟩ j := by
  unfold k0_pay20
  refine (pay8_apply _ _ _ _ r j).trans ?_
  unfold blockRow
  pointwise [k0_pay15, k0_pay16, pay3_apply, pay4_apply]

theorem high_apply (r : Fin 256) (j : Fin 2048) :
    k0_pay12 (k0_pay17 x0 x1 x2 x3 x4 x5 x6 x7 x8 x9) (k0_pay18 x0 x1 x2 x3 x4 x5 x6 x7 x8 x9) (k0_pay19 x0 x1 x2 x3 x4 x5 x6 x7 x8 x9) (View.ld x7 r0_9) (ix2 r j) = blockRow x0 x1 x2 x3 x4 x5 x6 x7 x8 x9 ⟨256 + r.val, by omega⟩ j := by
  refine (pay12_apply _ _ _ _ r j).trans ?_
  unfold blockRow gated
  pointwise [k0_pay14, k0_pay17, k0_pay18, k0_pay19, pay2_apply, pay5_apply, pay6_apply, pay7_apply]

theorem low_norm (r : Fin 256) (j : Fin 2048) :
    k0_pay11 (k0_pay20 x0 x1 x2 x3 x4 x5 x6 x7 x8 x9) (k0_pay9 (k0_pay15 x0 x1 x2 x3 x4 x5 x6 x7 x8 x9) (k0_pay16 x0 x1 x2 x3 x4 x5 x6 x7 x8 x9) (View.ld x8 r0_6) (View.ld x7 r0_9)) (k0_pay10 (F := Ideal)) (View.ld x9 r0_9) (ix2 r j)
      = normRow x0 x1 x2 x3 x4 x5 x6 x7 x8 x9 ⟨r.val, by omega⟩ j := by
  refine (pay11_apply _ _ _ _ _ (k0_pay20 x0 x1 x2 x3 x4 x5 x6 x7 x8 x9) rfl r j).trans ?_
  unfold normRow
  simp only [low_apply]
  pointwise []

theorem high_norm (r : Fin 256) (j : Fin 2048) :
    k0_pay1 (k0_pay13 (k0_pay17 x0 x1 x2 x3 x4 x5 x6 x7 x8 x9) (k0_pay18 x0 x1 x2 x3 x4 x5 x6 x7 x8 x9) (k0_pay19 x0 x1 x2 x3 x4 x5 x6 x7 x8 x9) (View.ld x7 r0_9) (View.ld x9 r0_9)) (ix2 r j)
      = normRow x0 x1 x2 x3 x4 x5 x6 x7 x8 x9 ⟨256 + r.val, by omega⟩ j := by
  refine (pay13_apply _ _ _ _ _ r j).trans ?_
  unfold normRow
  simp only [high_apply]
  pointwise []

theorem out10_apply (y : S512x2048.Idx) : out0_10 x0 x1 x2 x3 x4 x5 x6 x7 x8 x9 y = blockRow x0 x1 x2 x3 x4 x5 x6 x7 x8 x9 (y 0) (y 1) := by
  unfold out0_10
  refine View.canon_apply_of_pieces (Val := Elt Ideal) (e := .f32) (fun y => blockRow x0 x1 x2 x3 x4 x5 x6 x7 x8 x9 (y 0) (y 1)) _ ?_ y (cover0_10 _ _ y)
  intro p hp
  simp only [List.mem_cons, List.not_mem_nil, or_false] at hp
  rcases hp with rfl | rfl
  · intro z
    obtain ⟨r, j, rfl⟩ : ∃ (r : Fin 256) (j : Fin 2048), z = ix2 r j := ⟨z 0, z 1, by pointwise []⟩
    have e0 : r0_7.emb (ix2 r j) 0 = (⟨256 + r.val, by omega⟩ : Fin 512) := Fin.ext (by show 256 + 1 * r.val = 256 + r.val; omega)
    have e1 : r0_7.emb (ix2 r j) 1 = j := Fin.ext (by show 0 + 1 * j.val = _; omega)
    rw [e0, e1]
    exact high_apply _ _ _ _ _ _ _ _ _ _ r j
  · intro z
    obtain ⟨r, j, rfl⟩ : ∃ (r : Fin 256) (j : Fin 2048), z = ix2 r j := ⟨z 0, z 1, by pointwise []⟩
    have e0 : r0_3.emb (ix2 r j) 0 = (⟨r.val, by omega⟩ : Fin 512) := Fin.ext (by show 0 + 1 * r.val = r.val; omega)
    have e1 : r0_3.emb (ix2 r j) 1 = j := Fin.ext (by show 0 + 1 * j.val = _; omega)
    rw [e0, e1]
    exact low_apply _ _ _ _ _ _ _ _ _ _ r j

theorem out11_apply (y : S512x2048.Idx) : out0_11 x0 x1 x2 x3 x4 x5 x6 x7 x8 x9 y = normRow x0 x1 x2 x3 x4 x5 x6 x7 x8 x9 (y 0) (y 1) := by
  unfold out0_11
  refine View.canon_apply_of_pieces (Val := Elt Ideal) (e := .bf16) (fun y => normRow x0 x1 x2 x3 x4 x5 x6 x7 x8 x9 (y 0) (y 1)) _ ?_ y (cover0_11 _ _ y)
  intro p hp
  simp only [List.mem_cons, List.not_mem_nil, or_false] at hp
  rcases hp with rfl | rfl
  · intro z
    obtain ⟨r, j, rfl⟩ : ∃ (r : Fin 256) (j : Fin 2048), z = ix2 r j := ⟨z 0, z 1, by pointwise []⟩
    have e0 : r0_7.emb (ix2 r j) 0 = (⟨256 + r.val, by omega⟩ : Fin 512) := Fin.ext (by show 256 + 1 * r.val = 256 + r.val; omega)
    have e1 : r0_7.emb (ix2 r j) 1 = j := Fin.ext (by show 0 + 1 * j.val = _; omega)
    rw [e0, e1]
    exact high_norm _ _ _ _ _ _ _ _ _ _ r j
  · intro z
    obtain ⟨r, j, rfl⟩ : ∃ (r : Fin 256) (j : Fin 2048), z = ix2 r j := ⟨z 0, z 1, by pointwise []⟩
    have e0 : r0_3.emb (ix2 r j) 0 = (⟨r.val, by omega⟩ : Fin 512) := Fin.ext (by show 0 + 1 * r.val = r.val; omega)
    have e1 : r0_3.emb (ix2 r j) 1 = j := Fin.ext (by show 0 + 1 * j.val = _; omega)
    rw [e0, e1]
    exact low_norm _ _ _ _ _ _ _ _ _ _ r j

variable (m : (ℓ : Loc nD τ sig) → Buf (Elt Ideal) ℓ)

/-- Argument `r` as launched. -/
abbrev arg (c : Dev nD) (r : Ref sig .tc) := m ((c : Thread nD τ).loc r)

/-- The residual row: the input row plus both mixers' rows projected. -/
def residRow (a0 : (⟨S8192x2048, .f32⟩ : BufTy).Contents (Elt Ideal)) (a1 a2 : (⟨S4x2048x1024, .bf16⟩ : BufTy).Contents (Elt Ideal))
    (a3 : (⟨S2048x2048, .bf16⟩ : BufTy).Contents (Elt Ideal)) (r : Fin 8192) (q : Fin 2048) : EReal :=
  a0 (ix2 r q) + ((∑ k : Fin 1024, a1 (ix3 (seqOf r) (posOf r) k) * a3 (ix2 ⟨k.val, by omega⟩ q))
    + ∑ k : Fin 1024, a2 (ix3 (seqOf r) (posOf r) k) * a3 (ix2 ⟨1024 + k.val, by omega⟩ q))

/-- One row of the first result, of the arguments. -/
def evenRow (a0 : (⟨S8192x2048, .f32⟩ : BufTy).Contents (Elt Ideal)) (a1 a2 : (⟨S4x2048x1024, .bf16⟩ : BufTy).Contents (Elt Ideal))
    (a3 : (⟨S2048x2048, .bf16⟩ : BufTy).Contents (Elt Ideal)) (a4 : (⟨S2x4x2048x256, .f32⟩ : BufTy).Contents (Elt Ideal))
    (a5 : (⟨S2x256x2048, .bf16⟩ : BufTy).Contents (Elt Ideal)) (a6 : (⟨S2x2048, .f32⟩ : BufTy).Contents (Elt Ideal))
    (a7 : (⟨S2x2048x2048, .bf16⟩ : BufTy).Contents (Elt Ideal)) (r : Fin 8192) : Fin 2048 → EReal :=
  gated (residRow a0 a1 a2 a3 r)
    (fun q => ∑ k : Fin 256, a4 (ix4 0 (seqOf r) (posOf r) k) * a5 (ix3 0 k q))
    (fun k => a6 (ix2 0 k)) (fun k j => a7 (ix3 0 k j))

theorem idx : ∀ t : Fin cfg0.N, win0_0.index t = ![t.val, 0] ∧ win0_1.index t = ![t.val, 0] ∧ win0_2.index t = ![t.val, 0] ∧
    win0_3.index t = ![0, 0] ∧ win0_4.index t = ![1, 0] ∧
    win0_5.index t = ![0, t.val, 0] ∧ win0_6.index t = ![0, 0, 0] ∧ win0_7.index t = ![0, 0] ∧
    win0_8.index t = ![0, 0, 0] ∧ win0_9.index t = ![0, 0] ∧ win0_10.index t = ![t.val, 0] ∧ win0_11.index t = ![t.val, 0] :=
  (by decide +kernel : ∀ t : Fin grid0.N, win0_0.index t = ![t.val, 0] ∧ win0_1.index t = ![t.val, 0] ∧ win0_2.index t = ![t.val, 0] ∧
    win0_3.index t = ![0, 0] ∧ win0_4.index t = ![1, 0] ∧
    win0_5.index t = ![0, t.val, 0] ∧ win0_6.index t = ![0, 0, 0] ∧ win0_7.index t = ![0, 0] ∧
    win0_8.index t = ![0, 0, 0] ∧ win0_9.index t = ![0, 0] ∧ win0_10.index t = ![t.val, 0] ∧ win0_11.index t = ![t.val, 0])

variable (c : Dev nD) (t : Fin cfg0.N)

/-- The array row of a block row. -/
def rowOf (r : Fin 512) : Fin 8192 := ⟨512 * t.val + r.val, by have := t.isLt; change _ < 16 at this; omega⟩

theorem blk0 (r : Fin 512) (k : Fin 2048) : iblk m c 0 t (ix2 r k) = arg m c main_arg0 (ix2 (rowOf t r) k) := by
  blk_ext [iblk, V, idx t, rowOf]

theorem blk1 (r : Fin 512) (k : Fin 1024) : iblk m c 1 t (ix2 r k) = arg m c main_arg1 (ix3 (seqOf (rowOf t r)) (posOf (rowOf t r)) k) := by
  blk_ext! [iblk, V, idx t, rowOf, seqOf, posOf]

theorem blk2 (r : Fin 512) (k : Fin 1024) : iblk m c 2 t (ix2 r k) = arg m c main_arg2 (ix3 (seqOf (rowOf t r)) (posOf (rowOf t r)) k) := by
  blk_ext! [iblk, V, idx t, rowOf, seqOf, posOf]

theorem blk3 (k : Fin 1024) (j : Fin 2048) : iblk m c 3 t (ix2 k j) = arg m c main_arg3 (ix2 ⟨k.val, by omega⟩ j) := by
  blk_ext [iblk, V, idx t]

theorem blk4 (k : Fin 1024) (j : Fin 2048) : iblk m c 4 t (ix2 k j) = arg m c main_arg3 (ix2 ⟨1024 + k.val, by omega⟩ j) := by
  blk_ext [iblk, V, idx t]

theorem blk5 (r : Fin 512) (k : Fin 256) : iblk m c 5 t (ix3 0 r k) = arg m c main_arg4 (ix4 0 (seqOf (rowOf t r)) (posOf (rowOf t r)) k) := by
  blk_ext! [iblk, V, idx t, rowOf, seqOf, posOf]

theorem blk6 (k : Fin 256) (j : Fin 2048) : iblk m c 6 t (ix3 0 k j) = arg m c main_arg5 (ix3 0 k j) := by
  blk_ext [iblk, V, idx t]

theorem blk7 (k : Fin 2048) : iblk m c 7 t (ix2 0 k) = arg m c main_arg6 (ix2 0 k) := by
  blk_ext! [iblk, V, idx t]

theorem blk8 (k j : Fin 2048) : iblk m c 8 t (ix3 0 k j) = arg m c main_arg7 (ix3 0 k j) := by
  blk_ext [iblk, V, idx t]

theorem blk9 (k : Fin 2048) : iblk m c 9 t (ix2 0 k) = arg m c main_arg8 (ix2 0 k) := by
  blk_ext! [iblk, V, idx t]

/-- The first result as the closed form. -/
def outK : S8192x2048.Idx → EReal := fun y => evenRow (arg m c main_arg0) (arg m c main_arg1) (arg m c main_arg2) (arg m c main_arg3) (arg m c main_arg4) (arg m c main_arg5) (arg m c main_arg6) (arg m c main_arg7) (y 0) (y 1)

/-- The second result as the closed form. -/
def normK : S8192x2048.Idx → EReal := fun y => rms (evenRow (arg m c main_arg0) (arg m c main_arg1) (arg m c main_arg2) (arg m c main_arg3) (arg m c main_arg4) (arg m c main_arg5) (arg m c main_arg6) (arg m c main_arg7) (y 0)) (fun k => arg m c main_arg8 (ix2 0 k)) (y 1)

theorem row_eq (r : Fin 512) : blockRow (iblk m c 0 t) (iblk m c 1 t) (iblk m c 2 t) (iblk m c 3 t) (iblk m c 4 t) (iblk m c 5 t) (iblk m c 6 t) (iblk m c 7 t) (iblk m c 8 t) (iblk m c 9 t) r = evenRow (arg m c main_arg0) (arg m c main_arg1) (arg m c main_arg2) (arg m c main_arg3) (arg m c main_arg4) (arg m c main_arg5) (arg m c main_arg6) (arg m c main_arg7) (rowOf t r) := by
  unfold blockRow evenRow residRow
  simp only [blk0, blk1, blk2, blk3, blk4, blk5, blk6, blk7, blk8]

theorem point10 (r : Fin 512) (l : Fin 2048) : out0_10 (iblk m c 0 t) (iblk m c 1 t) (iblk m c 2 t) (iblk m c 3 t) (iblk m c 4 t) (iblk m c 5 t) (iblk m c 6 t) (iblk m c 7 t) (iblk m c 8 t) (iblk m c 9 t) (ix2 r l) = outK m c (ix2 (rowOf t r) l) := by
  rw [out10_apply]
  exact congrFun (row_eq m c t r) l

theorem point11 (r : Fin 512) (l : Fin 2048) : out0_11 (iblk m c 0 t) (iblk m c 1 t) (iblk m c 2 t) (iblk m c 3 t) (iblk m c 4 t) (iblk m c 5 t) (iblk m c 6 t) (iblk m c 7 t) (iblk m c 8 t) (iblk m c 9 t) (ix2 r l) = normK m c (ix2 (rowOf t r) l) := by
  rw [out11_apply]
  show normRow (iblk m c 0 t) (iblk m c 1 t) (iblk m c 2 t) (iblk m c 3 t) (iblk m c 4 t) (iblk m c 5 t) (iblk m c 6 t) (iblk m c 7 t) (iblk m c 8 t) (iblk m c 9 t) r l = _
  unfold normRow
  rw [row_eq]
  exact congrArg (fun g => rms _ g l) (funext fun k => blk9 m c t k)

theorem array10 : (dats m 0 c).arrAt 10 cfg0.N = outK m c := by
  refine (dats m 0 c).arrAt_eq_of_covers 10 _ (by decide +kernel) fun t hf y => ?_
  blk_simp
  rw [after0_10]
  obtain ⟨r, l, rfl⟩ : ∃ (r : Fin 512) (l : Fin 2048), y = ix2 r l := ⟨y 0, y 1, by pointwise []⟩
  refine (point10 m c t r l).trans (congrArg (outK m c) ?_)
  blk_ext [idx t, rowOf]

theorem array11 : (dats m 0 c).arrAt 11 cfg0.N = normK m c := by
  refine (dats m 0 c).arrAt_eq_of_covers 11 _ (by decide +kernel) fun t hf y => ?_
  blk_simp
  rw [after0_11]
  obtain ⟨r, l, rfl⟩ : ∃ (r : Fin 512) (l : Fin 2048), y = ix2 r l := ⟨y 0, y 1, by pointwise []⟩
  refine (point11 m c t r l).trans (congrArg (normK m c) ?_)
  blk_ext [idx t, rowOf]

end Even

end
-- ==== Proof.EvenRef.lean ====
/- The even layer's end: the reference's results are the same closed forms. -/
module

public import proofs.«01_k».proof.Proof.EvenKern
public import proofs.«01_k».proof.Proof.Gen.OutEvenRefIdeal.Run
public import Idealize.ShloMosaic.Lib.Pointwise

@[expose] public section

set_option maxRecDepth 16384

noncomputable section

namespace Even.Ref

open Idealize.ShloMosaic Idealize.ShloMosaic.TcCoe Idealize.SL.Sem Idealize.ShloMosaic.Tactic Idealize.ShloMosaic.StableHlo
open Cert.OutEvenRefIdeal Cert.OutEvenRefIdeal.Gen Layer

/-- The root mean square normalisation of every row, times the gain, as the program writes it. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem norm_apply (x : FVec Ideal S8192x2048 .f32) (g : FVec Ideal S2048 .f32) (r : Fin 8192) (l : Fin 2048) :
    norm x g (ix2 r l) = rms (fun k => x (ix2 r k)) (fun k => g (ix1 k)) l := by
  pointwise [norm]
  simp only [rms, meanSq]
  rfl

/-- The logistic gate of every entry of a product, as the program writes it. -/
def gate (x : FVec Ideal S8192x2048 .f32) (w : FVec Ideal S2048x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32))
    (Host.exp (Host.negf (Host.dotGeneral dot_S8192x2048_S2048x2048_S8192x2048_1_0_0_1_n_n none x w))))

theorem gate_apply (x : FVec Ideal S8192x2048 .f32) (w : FVec Ideal S2048x2048 .f32) (r : Fin 8192) (l : Fin 2048) :
    gate x w (ix2 r l) = Ideal.logistic (∑ k, x (ix2 r k) * w (ix2 k l)) := by
  pointwise [gate]
  rfl

/-- The residual plus the gated embedding. -/
def close (x : FVec Ideal S8192x2048 .f32) (w : FVec Ideal S2048x2048 .f32) (e : FVec Ideal S8192x2048 .f32) (g : FVec Ideal S2048 .f32) :
    FVec Ideal S8192x2048 .f32 := addf x (mulf (gate x w) (norm e g))

theorem close_apply (x : FVec Ideal S8192x2048 .f32) (w : FVec Ideal S2048x2048 .f32) (e : FVec Ideal S8192x2048 .f32) (g : FVec Ideal S2048 .f32)
    (r : Fin 8192) (l : Fin 2048) :
    close x w e g (ix2 r l) = gated (fun k => x (ix2 r k)) (fun k => e (ix2 r k)) (fun k => g (ix1 k)) (fun k j => w (ix2 k j)) l := by
  pointwise [close, norm_apply, gate_apply]
  rfl

/-- The embedding rows of this layer's slot, projected. -/
def emb (p : FVec Ideal S2x4x2048x256 .f32) (w : FVec Ideal S2x256x2048 .bf16) : FVec Ideal S8192x2048 .f32 :=
  Host.dotGeneral dot_S8192x256_S256x2048_S8192x2048_1_0_0_1_n_n none
    (shapeCast _ (shapeCast _ (extractStridedSlice S1x4x2048x256 ![0, 0, 0, 0] p slices_S2x4x2048x256_S1x4x2048x256_0_0_0_0) shapeCasts_S1x4x2048x256_S4x2048x256) shapeCasts_S4x2048x256_S8192x256)
    (extf .f32 (shapeCast _ (extractStridedSlice S1x256x2048 ![0, 0, 0] w slices_S2x256x2048_S1x256x2048_0_0_0) shapeCasts_S1x256x2048_S256x2048) bitsLt_bf16_f32)

theorem emb_apply (p : FVec Ideal S2x4x2048x256 .f32) (w : FVec Ideal S2x256x2048 .bf16) (r : Fin 8192) (l : Fin 2048) :
    emb p w (ix2 r l) = ∑ k : Fin 256, p (ix4 0 (seqOf r) (posOf r) k) * w (ix3 0 k l) := by
  pointwise [emb]
  rfl

/-- This layer's gate weights. -/
def gateW (w : FVec Ideal S2x2048x2048 .bf16) : FVec Ideal S2048x2048 .f32 :=
  extf .f32 (shapeCast _ (extractStridedSlice S1x2048x2048 ![0, 0, 0] w slices_S2x2048x2048_S1x2048x2048_0_0_0) shapeCasts_S1x2048x2048_S2048x2048) bitsLt_bf16_f32

theorem gateW_apply (w : FVec Ideal S2x2048x2048 .bf16) (k l : Fin 2048) : gateW w (ix2 k l) = w (ix3 0 k l) := by
  pointwise [gateW]

/-- This layer's embedding gain. -/
def gain (g : FVec Ideal S2x2048 .f32) : FVec Ideal S2048 .f32 :=
  shapeCast _ (extractStridedSlice S1x2048 ![0, 0] g slices_S2x2048_S1x2048_0_0) shapeCasts_S1x2048_S2048

theorem gain_apply (g : FVec Ideal S2x2048 .f32) (k : Fin 2048) : gain g (ix1 k) = g (ix2 0 k) := by
  pointwise [gain]

/-- Both mixers' outputs side by side. -/
def joined (y z : FVec Ideal S4x2048x1024 .bf16) : FVec Ideal S8192x2048 .f32 :=
  shapeCast _ (concatenate S4x2048x2048 2 [⟨S4x2048x1024, (extf .f32 y bitsLt_bf16_f32)⟩, ⟨S4x2048x1024, (extf .f32 z bitsLt_bf16_f32)⟩]
    concatenates_S4x2048x1024_S4x2048x1024_S4x2048x2048_d2) shapeCasts_S4x2048x2048_S8192x2048

theorem joined_low (y z : FVec Ideal S4x2048x1024 .bf16) (r : Fin 8192) (k : Fin 1024) :
    joined y z (ix2 r ⟨k.val, by omega⟩) = y (ix3 (seqOf r) (posOf r) k) := by
  pointwise [joined]
  rfl

theorem joined_high (y z : FVec Ideal S4x2048x1024 .bf16) (r : Fin 8192) (k : Fin 1024) :
    joined y z (ix2 r ⟨1024 + k.val, by omega⟩) = z (ix3 (seqOf r) (posOf r) k) := by
  pointwise [joined]
  rfl

/-- A sum over 2048 places is the sum over the first 1024 plus the sum over the rest. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The residual plus the projected mixer outputs. -/
def resid (h : FVec Ideal S8192x2048 .f32) (y z : FVec Ideal S4x2048x1024 .bf16) (w : FVec Ideal S2048x2048 .bf16) : FVec Ideal S8192x2048 .f32 :=
  addf h (Host.dotGeneral dot_S8192x2048_S2048x2048_S8192x2048_1_0_0_1_n_n none (joined y z) (extf .f32 w bitsLt_bf16_f32))

theorem resid_apply (h : FVec Ideal S8192x2048 .f32) (y z : FVec Ideal S4x2048x1024 .bf16) (w : FVec Ideal S2048x2048 .bf16) (r : Fin 8192) (l : Fin 2048) :
    resid h y z w (ix2 r l) = residRow h y z w r l := by
  have e : resid h y z w (ix2 r l) = h (ix2 r l) + ∑ k, joined y z (ix2 r k) * w (ix2 k l) := by
    pointwise [resid]
  rw [e, sum_halves]
  simp only [joined_low, joined_high]
  rfl

/-- The first result. -/
def first (a0 : FVec Ideal S8192x2048 .f32) (a1 a2 : FVec Ideal S4x2048x1024 .bf16) (a3 : FVec Ideal S2048x2048 .bf16) (a4 : FVec Ideal S2x4x2048x256 .f32)
    (a5 : FVec Ideal S2x256x2048 .bf16) (a6 : FVec Ideal S2x2048 .f32) (a7 : FVec Ideal S2x2048x2048 .bf16) : FVec Ideal S8192x2048 .f32 :=
  close (resid a0 a1 a2 a3) (gateW a7) (emb a4 a5) (gain a6)

theorem first_apply (a0 : FVec Ideal S8192x2048 .f32) (a1 a2 : FVec Ideal S4x2048x1024 .bf16) (a3 : FVec Ideal S2048x2048 .bf16) (a4 : FVec Ideal S2x4x2048x256 .f32)
    (a5 : FVec Ideal S2x256x2048 .bf16) (a6 : FVec Ideal S2x2048 .f32) (a7 : FVec Ideal S2x2048x2048 .bf16) (r : Fin 8192) (l : Fin 2048) :
    first a0 a1 a2 a3 a4 a5 a6 a7 (ix2 r l) = evenRow a0 a1 a2 a3 a4 a5 a6 a7 r l := by
  unfold first evenRow
  simp only [close_apply, resid_apply, emb_apply, gateW_apply, gain_apply]

/-- The second result. -/
def second (x : FVec Ideal S8192x2048 .f32) (g : FVec Ideal S1x2048 .f32) : FVec Ideal S8192x2048 .bf16 :=
  truncf .bf16 (norm x (shapeCast _ g shapeCasts_S1x2048_S2048)) bitsLt_bf16_f32

theorem second_apply (x : FVec Ideal S8192x2048 .f32) (g : FVec Ideal S1x2048 .f32) (r : Fin 8192) (l : Fin 2048) :
    second x g (ix2 r l) = rms (fun k => x (ix2 r k)) (fun k => g (ix2 0 k)) l := by
  refine (norm_apply _ _ r l).trans (congrArg (fun g => rms _ g l) (funext fun k => ?_))
  pointwise []

variable (m : (ℓ : Loc nD τ sig) → Buf (Elt Ideal) ℓ) (c : Dev nD)

theorem value0 : first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun y => evenRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) := by
  funext y
  obtain ⟨r, l, rfl⟩ : ∃ (r : Fin 8192) (l : Fin 2048), y = ix2 r l := ⟨y 0, y 1, by pointwise []⟩
  exact first_apply _ _ _ _ _ _ _ _ r l

theorem value1 : Value.res_out1 m c = fun y => rms (evenRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0)) (fun k => (m ((c.tc : Thread nD τ).loc main_arg8)) (ix2 0 k)) (y 1) := by
  have e : Value.res_out1 m c = second (first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
    unfold Value.res_out1 Value.res_main_v55 second first norm close gate resid joined emb gateW gain norm
    rfl
  rw [e]
  funext y
  obtain ⟨r, l, rfl⟩ : ∃ (r : Fin 8192) (l : Fin 2048), y = ix2 r l := ⟨y 0, y 1, by pointwise []⟩
  refine (second_apply _ _ r l).trans (congrArg (fun x => rms x _ l) (funext fun k => ?_))
  exact first_apply _ _ _ _ _ _ _ _ r k

end Even.Ref

end
-- ==== Proof.EvenClaims.lean ====
/- The claims about the call that ends the even layer. -/
module

public import proofs.«01_k».proof.Defs
public import proofs.«01_k».proof.Proof.Gen.OutEven
public import proofs.«01_k».proof.Proof.Gen.OutEven.Frame
public import proofs.«01_k».proof.Proof.Gen.OutEvenRefIdeal
public import proofs.«01_k».proof.Proof.EvenKern
public import proofs.«01_k».proof.Proof.EvenRef

@[expose] public section

set_option maxRecDepth 16384

noncomputable section

namespace Even

open Idealize.ShloMosaic Idealize.SL.Sem

/-- The reference runs, keeps its arguments and leaves every counter at zero. -/
theorem frame_ref : Cert.quiescent_OutEvenRefIdeal := fun m ρ _ =>
  (θ_run Cert.OutEvenRefIdeal.defs _ _).mono
    (fun r h => ⟨fun c => (h c).2.2, sem_eq_zero_of_no_sems (by decide) r.2⟩) (Cert.OutEvenRefIdeal.Value.run m ρ)

/-- Kernel and reference end with the same two arrays. -/
theorem algebraic : Cert.algebraic_OutEvenIdeal_OutEvenRefIdeal := by
  intro m ρ m' ρ' _ hagree
  refine ⟨fun c => outK m c, fun c => normK m c, ?_, ?_⟩
  · exact (θ_run _ _ _).mono (fun _ h c => ⟨(h c).1.trans (array10 m c), (h c).2.1.trans (array11 m c), (h c).2.2⟩) (Cert.OutEvenIdeal.Value.run_blocks m ρ)
  · refine (θ_run _ _ _).mono (fun _ h c => ⟨(h c).1.trans ((Ref.value0 m' c).trans ?_), (h c).2.1.trans ((Ref.value1 m' c).trans ?_), (h c).2.2⟩)
      (Cert.OutEvenRefIdeal.Value.run m' ρ')
    all_goals obtain ⟨h0, h1, h2, h3, h4, h5, h6, h7, h8⟩ := hagree c
    · unfold outK arg
      simp only [h0, h1, h2, h3, h4, h5, h6, h7]
    · unfold normK arg
      simp only [h0, h1, h2, h3, h4, h5, h6, h7, h8]
      rfl

end Even

end
-- ==== Proof.InEvenParts.lean ====
/- The even layer's input projection: the normalised rows, the lower bound, and the activation by column span. -/
module

public import proofs.«01_k».proof.Proof.Layer
public import proofs.«01_k».proof.Proof.Gen.InEvenIdeal.Value
public import Idealize.ShloMosaic.Lib.Pointwise
public import Idealize.ShloMosaic.Lib.Pipeline.ValueKit

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

/-- The lower bound of the even layer's decays: the first row of the softmax over the two layer slots. -/
def lower (x : Vec Ideal S2x1024 .f32) (j : Fin 1024) : EReal :=
  Ideal.div (Ideal.exp (x (ix2 0 j) - Finset.fold max (Ideal.ofBits .f32 0xFF800000#32) (fun i => x (ix2 i j)) Finset.univ))
    (∑ i : Fin 2, Ideal.exp (x (ix2 i j) - Finset.fold max (Ideal.ofBits .f32 0xFF800000#32) (fun i => x (ix2 i j)) Finset.univ))

/-- The activation of a column of the projection, by the span the column lies in. -/
def act (lb : Fin 1024 → EReal) (n : ℕ) (v : EReal) : EReal :=
  if n < 1024 then v * Ideal.logistic v
  else if n < 2048 then lb ⟨(n - 1024) % 1024, Nat.mod_lt _ (by decide)⟩ + (1 - lb ⟨(n - 1024) % 1024, Nat.mod_lt _ (by decide)⟩) * Ideal.logistic v
  else if n < 3072 then v
  else if n < 4096 then v * Ideal.logistic v
  else if n < 5120 then v
  else v * Ideal.logistic v

theorem act_silu (lb : Fin 1024 → EReal) (n : ℕ) (v : EReal) (h : n < 1024 ∨ (3072 ≤ n ∧ n < 4096) ∨ 5120 ≤ n) :
    act lb n v = v * Ideal.logistic v := by
  unfold act
  split_ifs <;> first | rfl | omega

theorem act_id (lb : Fin 1024 → EReal) (n : ℕ) (v : EReal) (h : (2048 ≤ n ∧ n < 3072) ∨ (4096 ≤ n ∧ n < 5120)) :
    act lb n v = v := by
  unfold act
  split_ifs <;> first | rfl | omega

theorem act_gate (lb : Fin 1024 → EReal) (n : ℕ) (j : Fin 1024) (v : EReal) (h : n = 1024 + j.val) :
    act lb n v = lb j + (1 - lb j) * Ideal.logistic v := by
  subst h
  have e : (⟨(1024 + j.val - 1024) % 1024, Nat.mod_lt _ (by decide)⟩ : Fin 1024) = j := Fin.ext (by show _ % _ = _; omega)
  unfold act
  rw [e]
  split_ifs <;> first | rfl | omega

theorem pay58_apply (x : Vec Ideal S2x1024 .f32) (j : Fin 1024) : k0_pay58 (F := Ideal) x (ix2 0 j) = lower x j := by
  pointwise [k0_pay58]
  simp only [Finset.univ_unique, Finset.sum_singleton]
  rfl

/-- A row of a block normalised. -/
def normRow (x0 : Vec Ideal S1024x2048 .f32) (x1 : Vec Ideal S1x2048 .f32) (r : Fin 1024) : Fin 2048 → EReal :=
  rms (fun k => x0 (ix2 r k)) (fun k => x1 (ix2 0 k))

/-- An entry of a block of the activated projection, of the normalised rows and the block of the weights. -/
def tile (hn : Fin 1024 → Fin 2048 → EReal) (w : Vec Ideal S2048x1536 .bf16) (lb : Fin 1024 → EReal) (jt : ℕ) (r : Fin 1024) (l : Fin 1536) : EReal :=
  act lb (1536 * jt + l.val) (∑ k, hn r k * w (ix2 k l))

theorem pay6_apply (x : Vec Ideal S256x2048 .f32) (g : Vec Ideal S1x2048 .f32) (r : Fin 256) (j : Fin 2048) :
    k0_pay6 (F := Ideal) x g (ix2 r j) = rms (fun k => x (ix2 r k)) (fun k => g (ix2 0 k)) j := by
  pointwise [k0_pay6]
  simp only [rms, meanSq]
  rfl

theorem pay12_apply (x : Vec Ideal S256x2048 .f32) (g : Vec Ideal S1x2048 .f32) (r : Fin 256) (j : Fin 2048) :
    k0_pay12 (F := Ideal) x g (ix2 r j) = rms (fun k => x (ix2 r k)) (fun k => g (ix2 0 k)) j := by
  pointwise [k0_pay12]
  simp only [rms, meanSq]
  rfl

theorem pay18_apply (x : Vec Ideal S256x2048 .f32) (g : Vec Ideal S1x2048 .f32) (r : Fin 256) (j : Fin 2048) :
    k0_pay18 (F := Ideal) x g (ix2 r j) = rms (fun k => x (ix2 r k)) (fun k => g (ix2 0 k)) j := by
  pointwise [k0_pay18]
  simp only [rms, meanSq]
  rfl

theorem pay59_apply (x : Vec Ideal S256x2048 .f32) (g : Vec Ideal S1x2048 .f32) (r : Fin 256) (j : Fin 2048) :
    k0_pay59 (F := Ideal) (k0_pay24 x) (k0_pay25 g) (ix2 r j) = rms (fun k => x (ix2 r k)) (fun k => g (ix2 0 k)) j := by
  pointwise [k0_pay59, k0_pay24, k0_pay25]
  simp only [rms, meanSq]
  rfl

end InEven

end
-- ==== Proof.InEvenColA.lean ====
/- Column block 0 of the even layer's input projection: each stored piece is a piece of the activated product. -/
module

public import proofs.«01_k».proof.Proof.InEvenParts

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

theorem pieceA_768_1024 (x0 : Vec Ideal S1024x2048 .f32) (x1 : Vec Ideal S1x2048 .f32) (x2 : Vec Ideal S2048x1536 .bf16) (x3 : Vec Ideal S2x1024 .f32) (r : Fin 256) (l : Fin 512) :
    k0_pay63 x3 (k0_pay24 (View.ld x0 (Rect.unit ![768, 0] ![256, 2048] inb_S1024x2048_S256x2048_768_0))) (k0_pay25 x1) (View.ld x2 (Rect.unit ![0, 1024] ![2048, 512] inb_S2048x1536_S2048x512_0_1024)) (ix2 r l) = tile (normRow x0 x1) x2 (lower x3) 0 ⟨768 + r.val, by omega⟩ ⟨1024 + l.val, by omega⟩ := by
  unfold tile normRow
  dsimp only
  rw [act_gate _ _ ⟨0 + l.val, by omega⟩ _ (by show _ = 1024 + (0 + l.val); omega)]
  pointwise [pay58_apply, pay59_apply, k0_pay63]

theorem pieceA_768_512 (x0 : Vec Ideal S1024x2048 .f32) (x1 : Vec Ideal S1x2048 .f32) (x2 : Vec Ideal S2048x1536 .bf16) (x3 : Vec Ideal S2x1024 .f32) (r : Fin 256) (l : Fin 512) :
    k0_pay62 (k0_pay24 (View.ld x0 (Rect.unit ![768, 0] ![256, 2048] inb_S1024x2048_S256x2048_768_0))) (k0_pay25 x1) (View.ld x2 (Rect.unit ![0, 512] ![2048, 512] inb_S2048x1536_S2048x512_0_512)) (ix2 r l) = tile (normRow x0 x1) x2 (lower x3) 0 ⟨768 + r.val, by omega⟩ ⟨512 + l.val, by omega⟩ := by
  unfold tile normRow
  dsimp only
  rw [act_silu _ _ _ (by omega)]
  pointwise [pay59_apply, k0_pay62]

theorem pieceA_768_0 (x0 : Vec Ideal S1024x2048 .f32) (x1 : Vec Ideal S1x2048 .f32) (x2 : Vec Ideal S2048x1536 .bf16) (x3 : Vec Ideal S2x1024 .f32) (r : Fin 256) (l : Fin 512) :
    k0_pay61 (k0_pay24 (View.ld x0 (Rect.unit ![768, 0] ![256, 2048] inb_S1024x2048_S256x2048_768_0))) (k0_pay25 x1) (View.ld x2 (Rect.unit ![0, 0] ![2048, 512] inb_S2048x1536_S2048x512_0_0)) (ix2 r l) = tile (normRow x0 x1) x2 (lower x3) 0 ⟨768 + r.val, by omega⟩ ⟨0 + l.val, by omega⟩ := by
  unfold tile normRow
  dsimp only
  rw [act_silu _ _ _ (by omega)]
  pointwise [pay59_apply, k0_pay61]

theorem pieceA_512_1024 (x0 : Vec Ideal S1024x2048 .f32) (x1 : Vec Ideal S1x2048 .f32) (x2 : Vec Ideal S2048x1536 .bf16) (x3 : Vec Ideal S2x1024 .f32) (r : Fin 256) (l : Fin 512) :
    k0_pay23 (k0_pay58 x3) (k0_pay18 (View.ld x0 (Rect.unit ![512, 0] ![256, 2048] inb_S1024x2048_S256x2048_512_0)) x1) (View.ld x2 (Rect.unit ![0, 1024] ![2048, 512] inb_S2048x1536_S2048x512_0_1024)) (ix2 r l) = tile (normRow x0 x1) x2 (lower x3) 0 ⟨512 + r.val, by omega⟩ ⟨1024 + l.val, by omega⟩ := by
  unfold tile normRow
  dsimp only
  rw [act_gate _ _ ⟨0 + l.val, by omega⟩ _ (by show _ = 1024 + (0 + l.val); omega)]
  pointwise [pay18_apply, k0_pay23, pay58_apply]

theorem pieceA_512_512 (x0 : Vec Ideal S1024x2048 .f32) (x1 : Vec Ideal S1x2048 .f32) (x2 : Vec Ideal S2048x1536 .bf16) (x3 : Vec Ideal S2x1024 .f32) (r : Fin 256) (l : Fin 512) :
    k0_pay22 (k0_pay18 (View.ld x0 (Rect.unit ![512, 0] ![256, 2048] inb_S1024x2048_S256x2048_512_0)) x1) (View.ld x2 (Rect.unit ![0, 512] ![2048, 512] inb_S2048x1536_S2048x512_0_512)) (ix2 r l) = tile (normRow x0 x1) x2 (lower x3) 0 ⟨512 + r.val, by omega⟩ ⟨512 + l.val, by omega⟩ := by
  unfold tile normRow
  dsimp only
  rw [act_silu _ _ _ (by omega)]
  pointwise [pay18_apply, k0_pay22]

theorem pieceA_512_0 (x0 : Vec Ideal S1024x2048 .f32) (x1 : Vec Ideal S1x2048 .f32) (x2 : Vec Ideal S2048x1536 .bf16) (x3 : Vec Ideal S2x1024 .f32) (r : Fin 256) (l : Fin 512) :
    k0_pay21 (k0_pay18 (View.ld x0 (Rect.unit ![512, 0] ![256, 2048] inb_S1024x2048_S256x2048_512_0)) x1) (k0_pay20 (View.ld x2 (Rect.unit ![0, 0] ![2048, 512] inb_S2048x1536_S2048x512_0_0))) (ix2 r l) = tile (normRow x0 x1) x2 (lower x3) 0 ⟨512 + r.val, by omega⟩ ⟨0 + l.val, by omega⟩ := by
  unfold tile normRow
  dsimp only
  rw [act_silu _ _ _ (by omega)]
  pointwise [pay18_apply, k0_pay20, k0_pay21]

theorem pieceA_256_1024 (x0 : Vec Ideal S1024x2048 .f32) (x1 : Vec Ideal S1x2048 .f32) (x2 : Vec Ideal S2048x1536 .bf16) (x3 : Vec Ideal S2x1024 .f32) (r : Fin 256) (l : Fin 512) :
    k0_pay17 (k0_pay58 x3) (k0_pay12 (View.ld x0 (Rect.unit ![256, 0] ![256, 2048] inb_S1024x2048_S256x2048_256_0)) x1) (View.ld x2 (Rect.unit ![0, 1024] ![2048, 512] inb_S2048x1536_S2048x512_0_1024)) (ix2 r l) = tile (normRow x0 x1) x2 (lower x3) 0 ⟨256 + r.val, by omega⟩ ⟨1024 + l.val, by omega⟩ := by
  unfold tile normRow
  dsimp only
  rw [act_gate _ _ ⟨0 + l.val, by omega⟩ _ (by show _ = 1024 + (0 + l.val); omega)]
  pointwise [pay12_apply, k0_pay17, pay58_apply]

theorem pieceA_256_512 (x0 : Vec Ideal S1024x2048 .f32) (x1 : Vec Ideal S1x2048 .f32) (x2 : Vec Ideal S2048x1536 .bf16) (x3 : Vec Ideal S2x1024 .f32) (r : Fin 256) (l : Fin 512) :
    k0_pay16 (k0_pay12 (View.ld x0 (Rect.unit ![256, 0] ![256, 2048] inb_S1024x2048_S256x2048_256_0)) x1) (k0_pay15 (View.ld x2 (Rect.unit ![0, 512] ![2048, 512] inb_S2048x1536_S2048x512_0_512))) (constant (F := Ideal) S256x512 .f32 0#32) (ix2 r l) = tile (normRow x0 x1) x2 (lower x3) 0 ⟨256 + r.val, by omega⟩ ⟨512 + l.val, by omega⟩ := by
  unfold tile normRow
  dsimp only
  rw [act_silu _ _ _ (by omega)]
  pointwise [pay12_apply, k0_pay15, k0_pay16]

theorem pieceA_256_0 (x0 : Vec Ideal S1024x2048 .f32) (x1 : Vec Ideal S1x2048 .f32) (x2 : Vec Ideal S2048x1536 .bf16) (x3 : Vec Ideal S2x1024 .f32) (r : Fin 256) (l : Fin 512) :
    k0_pay14 (View.ld x0 (Rect.unit ![256, 0] ![256, 2048] inb_S1024x2048_S256x2048_256_0)) x1 (View.ld x2 (Rect.unit ![0, 0] ![2048, 512] inb_S2048x1536_S2048x512_0_0)) (ix2 r l) = tile (normRow x0 x1) x2 (lower x3) 0 ⟨256 + r.val, by omega⟩ ⟨0 + l.val, by omega⟩ := by
  unfold tile normRow
  dsimp only
  rw [act_silu _ _ _ (by omega)]
  pointwise [pay12_apply, k0_pay14]

theorem pieceA_0_1024 (x0 : Vec Ideal S1024x2048 .f32) (x1 : Vec Ideal S1x2048 .f32) (x2 : Vec Ideal S2048x1536 .bf16) (x3 : Vec Ideal S2x1024 .f32) (r : Fin 256) (l : Fin 512) :
    k0_pay11 (k0_pay58 x3) (k0_pay10 (View.ld x0 (Rect.unit ![0, 0] ![256, 2048] inb_S1024x2048_S256x2048_0_0)) x1 (View.ld x2 (Rect.unit ![0, 1024] ![2048, 512] inb_S2048x1536_S2048x512_0_1024))) (ix2 r l) = tile (normRow x0 x1) x2 (lower x3) 0 ⟨0 + r.val, by omega⟩ ⟨1024 + l.val, by omega⟩ := by
  unfold tile normRow
  dsimp only
  rw [act_gate _ _ ⟨0 + l.val, by omega⟩ _ (by show _ = 1024 + (0 + l.val); omega)]
  pointwise [pay6_apply, k0_pay10, k0_pay11, pay58_apply]

theorem pieceA_0_512 (x0 : Vec Ideal S1024x2048 .f32) (x1 : Vec Ideal S1x2048 .f32) (x2 : Vec Ideal S2048x1536 .bf16) (x3 : Vec Ideal S2x1024 .f32) (r : Fin 256) (l : Fin 512) :
    k0_pay9 (View.ld x0 (Rect.unit ![0, 0] ![256, 2048] inb_S1024x2048_S256x2048_0_0)) x1 (View.ld x2 (Rect.unit ![0, 512] ![2048, 512] inb_S2048x1536_S2048x512_0_512)) (ix2 r l) = tile (normRow x0 x1) x2 (lower x3) 0 ⟨0 + r.val, by omega⟩ ⟨512 + l.val, by omega⟩ := by
  unfold tile normRow
  dsimp only
  rw [act_silu _ _ _ (by omega)]
  pointwise [pay6_apply, k0_pay9]

theorem pieceA_0_0 (x0 : Vec Ideal S1024x2048 .f32) (x1 : Vec Ideal S1x2048 .f32) (x2 : Vec Ideal S2048x1536 .bf16) (x3 : Vec Ideal S2x1024 .f32) (r : Fin 256) (l : Fin 512) :
    k0_pay8 (View.ld x0 (Rect.unit ![0, 0] ![256, 2048] inb_S1024x2048_S256x2048_0_0)) x1 (View.ld x2 (Rect.unit ![0, 0] ![2048, 512] inb_S2048x1536_S2048x512_0_0)) (ix2 r l) = tile (normRow x0 x1) x2 (lower x3) 0 ⟨0 + r.val, by omega⟩ ⟨0 + l.val, by omega⟩ := by
  unfold tile normRow
  dsimp only
  rw [act_silu _ _ _ (by omega)]
  pointwise [pay6_apply, k0_pay8]

end InEven

end
-- ==== Proof.InEvenColB.lean ====
/- Column block 1 of the even layer's input projection: each stored piece is a piece of the activated product. -/
module

public import proofs.«01_k».proof.Proof.InEvenParts

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

theorem pieceB_768_1024 (H : Vec Ideal S1024x2048 .bf16) (x2 : Vec Ideal S2048x1536 .bf16) (x3 : Vec Ideal S2x1024 .f32) (r : Fin 256) (l : Fin 512) :
    k0_pay67 (View.ld H (Rect.unit ![768, 0] ![256, 2048] inb_S1024x2048_S256x2048_768_0)) (View.ld x2 (Rect.unit ![0, 1024] ![2048, 512] inb_S2048x1536_S2048x512_0_1024)) (ix2 r l) = tile (fun r k => H (ix2 r k)) x2 (lower x3) 1 ⟨768 + r.val, by omega⟩ ⟨1024 + l.val, by omega⟩ := by
  unfold tile
  dsimp only
  rw [act_id _ _ _ (by omega)]
  pointwise [k0_pay67]

theorem pieceB_768_512 (H : Vec Ideal S1024x2048 .bf16) (x2 : Vec Ideal S2048x1536 .bf16) (x3 : Vec Ideal S2x1024 .f32) (r : Fin 256) (l : Fin 512) :
    k0_pay66 (View.ld H (Rect.unit ![768, 0] ![256, 2048] inb_S1024x2048_S256x2048_768_0)) (View.ld x2 (Rect.unit ![0, 512] ![2048, 512] inb_S2048x1536_S2048x512_0_512)) (ix2 r l) = tile (fun r k => H (ix2 r k)) x2 (lower x3) 1 ⟨768 + r.val, by omega⟩ ⟨512 + l.val, by omega⟩ := by
  unfold tile
  dsimp only
  rw [act_id _ _ _ (by omega)]
  pointwise [k0_pay66]

theorem pieceB_768_0 (H : Vec Ideal S1024x2048 .bf16) (x2 : Vec Ideal S2048x1536 .bf16) (x3 : Vec Ideal S2x1024 .f32) (r : Fin 256) (l : Fin 512) :
    k0_pay65 x3 (View.ld H (Rect.unit ![768, 0] ![256, 2048] inb_S1024x2048_S256x2048_768_0)) (View.ld x2 (Rect.unit ![0, 0] ![2048, 512] inb_S2048x1536_S2048x512_0_0)) (ix2 r l) = tile (fun r k => H (ix2 r k)) x2 (lower x3) 1 ⟨768 + r.val, by omega⟩ ⟨0 + l.val, by omega⟩ := by
  unfold tile
  dsimp only
  rw [act_gate _ _ ⟨512 + l.val, by omega⟩ _ (by show _ = 1024 + (512 + l.val); omega)]
  pointwise [pay58_apply, k0_pay65]

theorem pieceB_512_1024 (H : Vec Ideal S1024x2048 .bf16) (x2 : Vec Ideal S2048x1536 .bf16) (x3 : Vec Ideal S2x1024 .f32) (r : Fin 256) (l : Fin 512) :
    k0_pay64 (View.ld H (Rect.unit ![512, 0] ![256, 2048] inb_S1024x2048_S256x2048_512_0)) (k0_pay34 (View.ld x2 (Rect.unit ![0, 1024] ![2048, 512] inb_S2048x1536_S2048x512_0_1024))) (ix2 r l) = tile (fun r k => H (ix2 r k)) x2 (lower x3) 1 ⟨512 + r.val, by omega⟩ ⟨1024 + l.val, by omega⟩ := by
  unfold tile
  dsimp only
  rw [act_id _ _ _ (by omega)]
  pointwise [k0_pay34, k0_pay64]

theorem pieceB_512_512 (H : Vec Ideal S1024x2048 .bf16) (x2 : Vec Ideal S2048x1536 .bf16) (x3 : Vec Ideal S2x1024 .f32) (r : Fin 256) (l : Fin 512) :
    k0_pay33 (View.ld H (Rect.unit ![512, 0] ![256, 2048] inb_S1024x2048_S256x2048_512_0)) (View.ld x2 (Rect.unit ![0, 512] ![2048, 512] inb_S2048x1536_S2048x512_0_512)) (ix2 r l) = tile (fun r k => H (ix2 r k)) x2 (lower x3) 1 ⟨512 + r.val, by omega⟩ ⟨512 + l.val, by omega⟩ := by
  unfold tile
  dsimp only
  rw [act_id _ _ _ (by omega)]
  pointwise [k0_pay33]

theorem pieceB_512_0 (H : Vec Ideal S1024x2048 .bf16) (x2 : Vec Ideal S2048x1536 .bf16) (x3 : Vec Ideal S2x1024 .f32) (r : Fin 256) (l : Fin 512) :
    k0_pay32 (k0_pay58 x3) (View.ld H (Rect.unit ![512, 0] ![256, 2048] inb_S1024x2048_S256x2048_512_0)) (View.ld x2 (Rect.unit ![0, 0] ![2048, 512] inb_S2048x1536_S2048x512_0_0)) (ix2 r l) = tile (fun r k => H (ix2 r k)) x2 (lower x3) 1 ⟨512 + r.val, by omega⟩ ⟨0 + l.val, by omega⟩ := by
  unfold tile
  dsimp only
  rw [act_gate _ _ ⟨512 + l.val, by omega⟩ _ (by show _ = 1024 + (512 + l.val); omega)]
  pointwise [k0_pay32, pay58_apply]

theorem pieceB_256_1024 (H : Vec Ideal S1024x2048 .bf16) (x2 : Vec Ideal S2048x1536 .bf16) (x3 : Vec Ideal S2x1024 .f32) (r : Fin 256) (l : Fin 512) :
    k0_pay31 (View.ld H (Rect.unit ![256, 0] ![256, 2048] inb_S1024x2048_S256x2048_256_0)) (View.ld x2 (Rect.unit ![0, 1024] ![2048, 512] inb_S2048x1536_S2048x512_0_1024)) (ix2 r l) = tile (fun r k => H (ix2 r k)) x2 (lower x3) 1 ⟨256 + r.val, by omega⟩ ⟨1024 + l.val, by omega⟩ := by
  unfold tile
  dsimp only
  rw [act_id _ _ _ (by omega)]
  pointwise [k0_pay31]

theorem pieceB_256_512 (H : Vec Ideal S1024x2048 .bf16) (x2 : Vec Ideal S2048x1536 .bf16) (x3 : Vec Ideal S2x1024 .f32) (r : Fin 256) (l : Fin 512) :
    k0_pay30 (View.ld H (Rect.unit ![256, 0] ![256, 2048] inb_S1024x2048_S256x2048_256_0)) (View.ld x2 (Rect.unit ![0, 512] ![2048, 512] inb_S2048x1536_S2048x512_0_512)) (ix2 r l) = tile (fun r k => H (ix2 r k)) x2 (lower x3) 1 ⟨256 + r.val, by omega⟩ ⟨512 + l.val, by omega⟩ := by
  unfold tile
  dsimp only
  rw [act_id _ _ _ (by omega)]
  pointwise [k0_pay30]

theorem pieceB_256_0 (H : Vec Ideal S1024x2048 .bf16) (x2 : Vec Ideal S2048x1536 .bf16) (x3 : Vec Ideal S2x1024 .f32) (r : Fin 256) (l : Fin 512) :
    k0_pay29 (k0_pay58 x3) (View.ld H (Rect.unit ![256, 0] ![256, 2048] inb_S1024x2048_S256x2048_256_0)) (View.ld x2 (Rect.unit ![0, 0] ![2048, 512] inb_S2048x1536_S2048x512_0_0)) (ix2 r l) = tile (fun r k => H (ix2 r k)) x2 (lower x3) 1 ⟨256 + r.val, by omega⟩ ⟨0 + l.val, by omega⟩ := by
  unfold tile
  dsimp only
  rw [act_gate _ _ ⟨512 + l.val, by omega⟩ _ (by show _ = 1024 + (512 + l.val); omega)]
  pointwise [k0_pay29, pay58_apply]

theorem pieceB_0_1024 (H : Vec Ideal S1024x2048 .bf16) (x2 : Vec Ideal S2048x1536 .bf16) (x3 : Vec Ideal S2x1024 .f32) (r : Fin 256) (l : Fin 512) :
    k0_pay28 (View.ld H (Rect.unit ![0, 0] ![256, 2048] inb_S1024x2048_S256x2048_0_0)) (View.ld x2 (Rect.unit ![0, 1024] ![2048, 512] inb_S2048x1536_S2048x512_0_1024)) (ix2 r l) = tile (fun r k => H (ix2 r k)) x2 (lower x3) 1 ⟨0 + r.val, by omega⟩ ⟨1024 + l.val, by omega⟩ := by
  unfold tile
  dsimp only
  rw [act_id _ _ _ (by omega)]
  pointwise [k0_pay28]

theorem pieceB_0_512 (H : Vec Ideal S1024x2048 .bf16) (x2 : Vec Ideal S2048x1536 .bf16) (x3 : Vec Ideal S2x1024 .f32) (r : Fin 256) (l : Fin 512) :
    k0_pay27 (View.ld H (Rect.unit ![0, 0] ![256, 2048] inb_S1024x2048_S256x2048_0_0)) (View.ld x2 (Rect.unit ![0, 512] ![2048, 512] inb_S2048x1536_S2048x512_0_512)) (ix2 r l) = tile (fun r k => H (ix2 r k)) x2 (lower x3) 1 ⟨0 + r.val, by omega⟩ ⟨512 + l.val, by omega⟩ := by
  unfold tile
  dsimp only
  rw [act_id _ _ _ (by omega)]
  pointwise [k0_pay27]

theorem pieceB_0_0 (H : Vec Ideal S1024x2048 .bf16) (x2 : Vec Ideal S2048x1536 .bf16) (x3 : Vec Ideal S2x1024 .f32) (r : Fin 256) (l : Fin 512) :
    k0_pay26 (k0_pay58 x3) (View.ld H (Rect.unit ![0, 0] ![256, 2048] inb_S1024x2048_S256x2048_0_0)) (View.ld x2 (Rect.unit ![0, 0] ![2048, 512] inb_S2048x1536_S2048x512_0_0)) (ix2 r l) = tile (fun r k => H (ix2 r k)) x2 (lower x3) 1 ⟨0 + r.val, by omega⟩ ⟨0 + l.val, by omega⟩ := by
  unfold tile
  dsimp only
  rw [act_gate _ _ ⟨512 + l.val, by omega⟩ _ (by show _ = 1024 + (512 + l.val); omega)]
  pointwise [k0_pay26, pay58_apply]

end InEven

end
-- ==== Proof.InEvenColC.lean ====
/- Column block 2 of the even layer's input projection: each stored piece is a piece of the activated product. -/
module

public import proofs.«01_k».proof.Proof.InEvenParts

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

theorem pieceC_768_1024 (H : Vec Ideal S1024x2048 .bf16) (x2 : Vec Ideal S2048x1536 .bf16) (x3 : Vec Ideal S2x1024 .f32) (r : Fin 256) (l : Fin 512) :
    k0_pay3 (View.ld H (Rect.unit ![768, 0] ![256, 2048] inb_S1024x2048_S256x2048_768_0)) (View.ld x2 (Rect.unit ![0, 1024] ![2048, 512] inb_S2048x1536_S2048x512_0_1024)) (ix2 r l) = tile (fun r k => H (ix2 r k)) x2 (lower x3) 2 ⟨768 + r.val, by omega⟩ ⟨1024 + l.val, by omega⟩ := by
  unfold tile
  dsimp only
  rw [act_id _ _ _ (by omega)]
  pointwise [k0_pay3]

theorem pieceC_768_512 (H : Vec Ideal S1024x2048 .bf16) (x2 : Vec Ideal S2048x1536 .bf16) (x3 : Vec Ideal S2x1024 .f32) (r : Fin 256) (l : Fin 512) :
    k0_pay2 (View.ld H (Rect.unit ![768, 0] ![256, 2048] inb_S1024x2048_S256x2048_768_0)) (View.ld x2 (Rect.unit ![0, 512] ![2048, 512] inb_S2048x1536_S2048x512_0_512)) (ix2 r l) = tile (fun r k => H (ix2 r k)) x2 (lower x3) 2 ⟨768 + r.val, by omega⟩ ⟨512 + l.val, by omega⟩ := by
  unfold tile
  dsimp only
  rw [act_silu _ _ _ (by omega)]
  pointwise [k0_pay2]

theorem pieceC_768_0 (H : Vec Ideal S1024x2048 .bf16) (x2 : Vec Ideal S2048x1536 .bf16) (x3 : Vec Ideal S2x1024 .f32) (r : Fin 256) (l : Fin 512) :
    k0_pay1 (k0_pay44 (View.ld H (Rect.unit ![768, 0] ![256, 2048] inb_S1024x2048_S256x2048_768_0)) (View.ld x2 (Rect.unit ![0, 0] ![2048, 512] inb_S2048x1536_S2048x512_0_0))) (ix2 r l) = tile (fun r k => H (ix2 r k)) x2 (lower x3) 2 ⟨768 + r.val, by omega⟩ ⟨0 + l.val, by omega⟩ := by
  unfold tile
  dsimp only
  rw [act_silu _ _ _ (by omega)]
  pointwise [k0_pay1, k0_pay44]

theorem pieceC_512_1024 (H : Vec Ideal S1024x2048 .bf16) (x2 : Vec Ideal S2048x1536 .bf16) (x3 : Vec Ideal S2x1024 .f32) (r : Fin 256) (l : Fin 512) :
    k0_pay43 (View.ld H (Rect.unit ![512, 0] ![256, 2048] inb_S1024x2048_S256x2048_512_0)) (View.ld x2 (Rect.unit ![0, 1024] ![2048, 512] inb_S2048x1536_S2048x512_0_1024)) (ix2 r l) = tile (fun r k => H (ix2 r k)) x2 (lower x3) 2 ⟨512 + r.val, by omega⟩ ⟨1024 + l.val, by omega⟩ := by
  unfold tile
  dsimp only
  rw [act_id _ _ _ (by omega)]
  pointwise [k0_pay43]

theorem pieceC_512_512 (H : Vec Ideal S1024x2048 .bf16) (x2 : Vec Ideal S2048x1536 .bf16) (x3 : Vec Ideal S2x1024 .f32) (r : Fin 256) (l : Fin 512) :
    k0_pay42 (View.ld H (Rect.unit ![512, 0] ![256, 2048] inb_S1024x2048_S256x2048_512_0)) (View.ld x2 (Rect.unit ![0, 512] ![2048, 512] inb_S2048x1536_S2048x512_0_512)) (ix2 r l) = tile (fun r k => H (ix2 r k)) x2 (lower x3) 2 ⟨512 + r.val, by omega⟩ ⟨512 + l.val, by omega⟩ := by
  unfold tile
  dsimp only
  rw [act_silu _ _ _ (by omega)]
  pointwise [k0_pay42]

theorem pieceC_512_0 (H : Vec Ideal S1024x2048 .bf16) (x2 : Vec Ideal S2048x1536 .bf16) (x3 : Vec Ideal S2x1024 .f32) (r : Fin 256) (l : Fin 512) :
    k0_pay41 (View.ld H (Rect.unit ![512, 0] ![256, 2048] inb_S1024x2048_S256x2048_512_0)) (View.ld x2 (Rect.unit ![0, 0] ![2048, 512] inb_S2048x1536_S2048x512_0_0)) (ix2 r l) = tile (fun r k => H (ix2 r k)) x2 (lower x3) 2 ⟨512 + r.val, by omega⟩ ⟨0 + l.val, by omega⟩ := by
  unfold tile
  dsimp only
  rw [act_silu _ _ _ (by omega)]
  pointwise [k0_pay41]

theorem pieceC_256_1024 (H : Vec Ideal S1024x2048 .bf16) (x2 : Vec Ideal S2048x1536 .bf16) (x3 : Vec Ideal S2x1024 .f32) (r : Fin 256) (l : Fin 512) :
    k0_pay40 (View.ld H (Rect.unit ![256, 0] ![256, 2048] inb_S1024x2048_S256x2048_256_0)) (View.ld x2 (Rect.unit ![0, 1024] ![2048, 512] inb_S2048x1536_S2048x512_0_1024)) (ix2 r l) = tile (fun r k => H (ix2 r k)) x2 (lower x3) 2 ⟨256 + r.val, by omega⟩ ⟨1024 + l.val, by omega⟩ := by
  unfold tile
  dsimp only
  rw [act_id _ _ _ (by omega)]
  pointwise [k0_pay40]

theorem pieceC_256_512 (H : Vec Ideal S1024x2048 .bf16) (x2 : Vec Ideal S2048x1536 .bf16) (x3 : Vec Ideal S2x1024 .f32) (r : Fin 256) (l : Fin 512) :
    k0_pay39 (View.ld H (Rect.unit ![256, 0] ![256, 2048] inb_S1024x2048_S256x2048_256_0)) (View.ld x2 (Rect.unit ![0, 512] ![2048, 512] inb_S2048x1536_S2048x512_0_512)) (ix2 r l) = tile (fun r k => H (ix2 r k)) x2 (lower x3) 2 ⟨256 + r.val, by omega⟩ ⟨512 + l.val, by omega⟩ := by
  unfold tile
  dsimp only
  rw [act_silu _ _ _ (by omega)]
  pointwise [k0_pay39]

theorem pieceC_256_0 (H : Vec Ideal S1024x2048 .bf16) (x2 : Vec Ideal S2048x1536 .bf16) (x3 : Vec Ideal S2x1024 .f32) (r : Fin 256) (l : Fin 512) :
    k0_pay38 (View.ld H (Rect.unit ![256, 0] ![256, 2048] inb_S1024x2048_S256x2048_256_0)) (View.ld x2 (Rect.unit ![0, 0] ![2048, 512] inb_S2048x1536_S2048x512_0_0)) (ix2 r l) = tile (fun r k => H (ix2 r k)) x2 (lower x3) 2 ⟨256 + r.val, by omega⟩ ⟨0 + l.val, by omega⟩ := by
  unfold tile
  dsimp only
  rw [act_silu _ _ _ (by omega)]
  pointwise [k0_pay38]

theorem pieceC_0_1024 (H : Vec Ideal S1024x2048 .bf16) (x2 : Vec Ideal S2048x1536 .bf16) (x3 : Vec Ideal S2x1024 .f32) (r : Fin 256) (l : Fin 512) :
    k0_pay37 (View.ld H (Rect.unit ![0, 0] ![256, 2048] inb_S1024x2048_S256x2048_0_0)) (View.ld x2 (Rect.unit ![0, 1024] ![2048, 512] inb_S2048x1536_S2048x512_0_1024)) (ix2 r l) = tile (fun r k => H (ix2 r k)) x2 (lower x3) 2 ⟨0 + r.val, by omega⟩ ⟨1024 + l.val, by omega⟩ := by
  unfold tile
  dsimp only
  rw [act_id _ _ _ (by omega)]
  pointwise [k0_pay37]

theorem pieceC_0_512 (H : Vec Ideal S1024x2048 .bf16) (x2 : Vec Ideal S2048x1536 .bf16) (x3 : Vec Ideal S2x1024 .f32) (r : Fin 256) (l : Fin 512) :
    k0_pay36 (View.ld H (Rect.unit ![0, 0] ![256, 2048] inb_S1024x2048_S256x2048_0_0)) (View.ld x2 (Rect.unit ![0, 512] ![2048, 512] inb_S2048x1536_S2048x512_0_512)) (ix2 r l) = tile (fun r k => H (ix2 r k)) x2 (lower x3) 2 ⟨0 + r.val, by omega⟩ ⟨512 + l.val, by omega⟩ := by
  unfold tile
  dsimp only
  rw [act_silu _ _ _ (by omega)]
  pointwise [k0_pay36]

theorem pieceC_0_0 (H : Vec Ideal S1024x2048 .bf16) (x2 : Vec Ideal S2048x1536 .bf16) (x3 : Vec Ideal S2x1024 .f32) (r : Fin 256) (l : Fin 512) :
    k0_pay35 (View.ld H (Rect.unit ![0, 0] ![256, 2048] inb_S1024x2048_S256x2048_0_0)) (View.ld x2 (Rect.unit ![0, 0] ![2048, 512] inb_S2048x1536_S2048x512_0_0)) (ix2 r l) = tile (fun r k => H (ix2 r k)) x2 (lower x3) 2 ⟨0 + r.val, by omega⟩ ⟨0 + l.val, by omega⟩ := by
  unfold tile
  dsimp only
  rw [act_silu _ _ _ (by omega)]
  pointwise [k0_pay35]

end InEven

end
-- ==== Proof.InEvenColD.lean ====
/- Column block 3 of the even layer's input projection: each stored piece is a piece of the activated product. -/
module

public import proofs.«01_k».proof.Proof.InEvenParts

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

theorem pieceD_768_1024 (H : Vec Ideal S1024x2048 .bf16) (x2 : Vec Ideal S2048x1536 .bf16) (x3 : Vec Ideal S2x1024 .f32) (r : Fin 256) (l : Fin 512) :
    k0_pay5 (View.ld H (Rect.unit ![768, 0] ![256, 2048] inb_S1024x2048_S256x2048_768_0)) (View.ld x2 (Rect.unit ![0, 1024] ![2048, 512] inb_S2048x1536_S2048x512_0_1024)) (ix2 r l) = tile (fun r k => H (ix2 r k)) x2 (lower x3) 3 ⟨768 + r.val, by omega⟩ ⟨1024 + l.val, by omega⟩ := by
  unfold tile
  dsimp only
  rw [act_silu _ _ _ (by omega)]
  pointwise [k0_pay5]

theorem pieceD_768_512 (H : Vec Ideal S1024x2048 .bf16) (x2 : Vec Ideal S2048x1536 .bf16) (x3 : Vec Ideal S2x1024 .f32) (r : Fin 256) (l : Fin 512) :
    k0_pay4 (View.ld H (Rect.unit ![768, 0] ![256, 2048] inb_S1024x2048_S256x2048_768_0)) (View.ld x2 (Rect.unit ![0, 512] ![2048, 512] inb_S2048x1536_S2048x512_0_512)) (ix2 r l) = tile (fun r k => H (ix2 r k)) x2 (lower x3) 3 ⟨768 + r.val, by omega⟩ ⟨512 + l.val, by omega⟩ := by
  unfold tile
  dsimp only
  rw [act_silu _ _ _ (by omega)]
  pointwise [k0_pay4]

theorem pieceD_768_0 (H : Vec Ideal S1024x2048 .bf16) (x2 : Vec Ideal S2048x1536 .bf16) (x3 : Vec Ideal S2x1024 .f32) (r : Fin 256) (l : Fin 512) :
    k0_pay54 (View.ld H (Rect.unit ![768, 0] ![256, 2048] inb_S1024x2048_S256x2048_768_0)) (View.ld x2 (Rect.unit ![0, 0] ![2048, 512] inb_S2048x1536_S2048x512_0_0)) (ix2 r l) = tile (fun r k => H (ix2 r k)) x2 (lower x3) 3 ⟨768 + r.val, by omega⟩ ⟨0 + l.val, by omega⟩ := by
  unfold tile
  dsimp only
  rw [act_id _ _ _ (by omega)]
  pointwise [k0_pay54]

theorem pieceD_512_1024 (H : Vec Ideal S1024x2048 .bf16) (x2 : Vec Ideal S2048x1536 .bf16) (x3 : Vec Ideal S2x1024 .f32) (r : Fin 256) (l : Fin 512) :
    k0_pay53 (View.ld H (Rect.unit ![512, 0] ![256, 2048] inb_S1024x2048_S256x2048_512_0)) (View.ld x2 (Rect.unit ![0, 1024] ![2048, 512] inb_S2048x1536_S2048x512_0_1024)) (ix2 r l) = tile (fun r k => H (ix2 r k)) x2 (lower x3) 3 ⟨512 + r.val, by omega⟩ ⟨1024 + l.val, by omega⟩ := by
  unfold tile
  dsimp only
  rw [act_silu _ _ _ (by omega)]
  pointwise [k0_pay53]

theorem pieceD_512_512 (H : Vec Ideal S1024x2048 .bf16) (x2 : Vec Ideal S2048x1536 .bf16) (x3 : Vec Ideal S2x1024 .f32) (r : Fin 256) (l : Fin 512) :
    k0_pay52 (View.ld H (Rect.unit ![512, 0] ![256, 2048] inb_S1024x2048_S256x2048_512_0)) (View.ld x2 (Rect.unit ![0, 512] ![2048, 512] inb_S2048x1536_S2048x512_0_512)) (ix2 r l) = tile (fun r k => H (ix2 r k)) x2 (lower x3) 3 ⟨512 + r.val, by omega⟩ ⟨512 + l.val, by omega⟩ := by
  unfold tile
  dsimp only
  rw [act_silu _ _ _ (by omega)]
  pointwise [k0_pay52]

theorem pieceD_512_0 (H : Vec Ideal S1024x2048 .bf16) (x2 : Vec Ideal S2048x1536 .bf16) (x3 : Vec Ideal S2x1024 .f32) (r : Fin 256) (l : Fin 512) :
    k0_pay51 (View.ld H (Rect.unit ![512, 0] ![256, 2048] inb_S1024x2048_S256x2048_512_0)) (View.ld x2 (Rect.unit ![0, 0] ![2048, 512] inb_S2048x1536_S2048x512_0_0)) (ix2 r l) = tile (fun r k => H (ix2 r k)) x2 (lower x3) 3 ⟨512 + r.val, by omega⟩ ⟨0 + l.val, by omega⟩ := by
  unfold tile
  dsimp only
  rw [act_id _ _ _ (by omega)]
  pointwise [k0_pay51]

theorem pieceD_256_1024 (H : Vec Ideal S1024x2048 .bf16) (x2 : Vec Ideal S2048x1536 .bf16) (x3 : Vec Ideal S2x1024 .f32) (r : Fin 256) (l : Fin 512) :
    k0_pay50 (View.ld H (Rect.unit ![256, 0] ![256, 2048] inb_S1024x2048_S256x2048_256_0)) (View.ld x2 (Rect.unit ![0, 1024] ![2048, 512] inb_S2048x1536_S2048x512_0_1024)) (ix2 r l) = tile (fun r k => H (ix2 r k)) x2 (lower x3) 3 ⟨256 + r.val, by omega⟩ ⟨1024 + l.val, by omega⟩ := by
  unfold tile
  dsimp only
  rw [act_silu _ _ _ (by omega)]
  pointwise [k0_pay50]

theorem pieceD_256_512 (H : Vec Ideal S1024x2048 .bf16) (x2 : Vec Ideal S2048x1536 .bf16) (x3 : Vec Ideal S2x1024 .f32) (r : Fin 256) (l : Fin 512) :
    k0_pay49 (View.ld H (Rect.unit ![256, 0] ![256, 2048] inb_S1024x2048_S256x2048_256_0)) (View.ld x2 (Rect.unit ![0, 512] ![2048, 512] inb_S2048x1536_S2048x512_0_512)) (ix2 r l) = tile (fun r k => H (ix2 r k)) x2 (lower x3) 3 ⟨256 + r.val, by omega⟩ ⟨512 + l.val, by omega⟩ := by
  unfold tile
  dsimp only
  rw [act_silu _ _ _ (by omega)]
  pointwise [k0_pay49]

theorem pieceD_256_0 (H : Vec Ideal S1024x2048 .bf16) (x2 : Vec Ideal S2048x1536 .bf16) (x3 : Vec Ideal S2x1024 .f32) (r : Fin 256) (l : Fin 512) :
    k0_pay48 (View.ld H (Rect.unit ![256, 0] ![256, 2048] inb_S1024x2048_S256x2048_256_0)) (View.ld x2 (Rect.unit ![0, 0] ![2048, 512] inb_S2048x1536_S2048x512_0_0)) (ix2 r l) = tile (fun r k => H (ix2 r k)) x2 (lower x3) 3 ⟨256 + r.val, by omega⟩ ⟨0 + l.val, by omega⟩ := by
  unfold tile
  dsimp only
  rw [act_id _ _ _ (by omega)]
  pointwise [k0_pay48]

theorem pieceD_0_1024 (H : Vec Ideal S1024x2048 .bf16) (x2 : Vec Ideal S2048x1536 .bf16) (x3 : Vec Ideal S2x1024 .f32) (r : Fin 256) (l : Fin 512) :
    k0_pay47 (View.ld H (Rect.unit ![0, 0] ![256, 2048] inb_S1024x2048_S256x2048_0_0)) (View.ld x2 (Rect.unit ![0, 1024] ![2048, 512] inb_S2048x1536_S2048x512_0_1024)) (ix2 r l) = tile (fun r k => H (ix2 r k)) x2 (lower x3) 3 ⟨0 + r.val, by omega⟩ ⟨1024 + l.val, by omega⟩ := by
  unfold tile
  dsimp only
  rw [act_silu _ _ _ (by omega)]
  pointwise [k0_pay47]

theorem pieceD_0_512 (H : Vec Ideal S1024x2048 .bf16) (x2 : Vec Ideal S2048x1536 .bf16) (x3 : Vec Ideal S2x1024 .f32) (r : Fin 256) (l : Fin 512) :
    k0_pay46 (View.ld H (Rect.unit ![0, 0] ![256, 2048] inb_S1024x2048_S256x2048_0_0)) (View.ld x2 (Rect.unit ![0, 512] ![2048, 512] inb_S2048x1536_S2048x512_0_512)) (ix2 r l) = tile (fun r k => H (ix2 r k)) x2 (lower x3) 3 ⟨0 + r.val, by omega⟩ ⟨512 + l.val, by omega⟩ := by
  unfold tile
  dsimp only
  rw [act_silu _ _ _ (by omega)]
  pointwise [k0_pay46]

theorem pieceD_0_0 (H : Vec Ideal S1024x2048 .bf16) (x2 : Vec Ideal S2048x1536 .bf16) (x3 : Vec Ideal S2x1024 .f32) (r : Fin 256) (l : Fin 512) :
    k0_pay45 (View.ld H (Rect.unit ![0, 0] ![256, 2048] inb_S1024x2048_S256x2048_0_0)) (View.ld x2 (Rect.unit ![0, 0] ![2048, 512] inb_S2048x1536_S2048x512_0_0)) (ix2 r l) = tile (fun r k => H (ix2 r k)) x2 (lower x3) 3 ⟨0 + r.val, by omega⟩ ⟨0 + l.val, by omega⟩ := by
  unfold tile
  dsimp only
  rw [act_id _ _ _ (by omega)]
  pointwise [k0_pay45]

end InEven

end
-- ==== Proof.InEvenPoint.lean ====
/- What each grid point of the even layer's input projection leaves: a block of the activated product, the normalised rows, and the cast weights. -/
module

public import proofs.«01_k».proof.Proof.InEvenColA
public import proofs.«01_k».proof.Proof.InEvenColB
public import proofs.«01_k».proof.Proof.InEvenColC
public import proofs.«01_k».proof.Proof.InEvenColD
public import Idealize.ShloMosaic.Lib.Pipeline.ReadBack

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

theorem lift (r0 c0 : ℕ) (hr : r0 + 256 ≤ 1024) (hc : c0 + 512 ≤ 1536) (inb) (G : Fin 1024 → Fin 1536 → EReal) (pay : Vec Ideal S256x512 .f32)
    (h : ∀ (r : Fin 256) (l : Fin 512), pay (ix2 r l) = G ⟨r0 + r.val, by omega⟩ ⟨c0 + l.val, by omega⟩) (z : S256x512.Idx) :
    pay z = G ((Rect.unit (s := S1024x1536) ![r0, c0] ![256, 512] inb).emb z 0) ((Rect.unit (s := S1024x1536) ![r0, c0] ![256, 512] inb).emb z 1) := by
  obtain ⟨r, l, rfl⟩ : ∃ (r : Fin 256) (l : Fin 512), z = ix2 r l := ⟨z 0, z 1, by pointwise []⟩
  have e0 : (Rect.unit (s := S1024x1536) ![r0, c0] ![256, 512] inb).emb (ix2 r l) 0 = (⟨r0 + r.val, by omega⟩ : Fin 1024) := Fin.ext (by show r0 + 1 * r.val = r0 + r.val; omega)
  have e1 : (Rect.unit (s := S1024x1536) ![r0, c0] ![256, 512] inb).emb (ix2 r l) 1 = (⟨c0 + l.val, by omega⟩ : Fin 1536) := Fin.ext (by show c0 + 1 * l.val = c0 + l.val; omega)
  rw [e0, e1]
  exact h r l

theorem liftRow (r0 : ℕ) (hr : r0 + 256 ≤ 1024) (inb) (G : Fin 1024 → Fin 2048 → EReal) (pay : Vec Ideal S256x2048 .bf16)
    (h : ∀ (r : Fin 256) (l : Fin 2048), pay (ix2 r l) = G ⟨r0 + r.val, by omega⟩ l) (z : S256x2048.Idx) :
    pay z = G ((Rect.unit (s := S1024x2048) ![r0, 0] ![256, 2048] inb).emb z 0) ((Rect.unit (s := S1024x2048) ![r0, 0] ![256, 2048] inb).emb z 1) := by
  obtain ⟨r, l, rfl⟩ : ∃ (r : Fin 256) (l : Fin 2048), z = ix2 r l := ⟨z 0, z 1, by pointwise []⟩
  have e0 : (Rect.unit (s := S1024x2048) ![r0, 0] ![256, 2048] inb).emb (ix2 r l) 0 = (⟨r0 + r.val, by omega⟩ : Fin 1024) := Fin.ext (by show r0 + 1 * r.val = r0 + r.val; omega)
  have e1 : (Rect.unit (s := S1024x2048) ![r0, 0] ![256, 2048] inb).emb (ix2 r l) 1 = l := Fin.ext (by show 0 + 1 * l.val = _; omega)
  rw [e0, e1]
  exact h r l

variable (m : (ℓ : Loc nD τ sig) → Buf (Elt Ideal) ℓ) (c : Dev nD) (t : Fin cfg0.N)

theorem outA (h0 : t.val % 4 = 0) (h1 : ¬t.val % 4 = 1) (h2 : ¬t.val % 4 = 2) (h3 : ¬t.val % 4 = 3) (r : Fin 1024) (l : Fin 1536) : (outsAt0 (F := Ideal) m c t.val t.isLt).1 (ix2 r l) = tile (normRow (iblk m c 0 t) (iblk m c 1 t)) (iblk m c 2 t) (lower (iblk m c 3 t)) 0 r l := by
  rw [outsAt0_A m c t h0 h1 h2 h3]
  frame_out
  refine View.canon_apply_of_pieces (Val := Elt Ideal) (e := .f32) (fun y => tile (normRow (iblk m c 0 t) (iblk m c 1 t)) (iblk m c 2 t) (lower (iblk m c 3 t)) 0 (y 0) (y 1)) _ ?_ (ix2 r l) (View.cover_of_tiledL (s := S1024x1536) _ S256x512.size (by sl_kernel_rfl) (ix2 r l))
  intro p hp
  simp only [List.mem_cons, List.not_mem_nil, or_false] at hp
  rcases hp with rfl | rfl | rfl | rfl | rfl | rfl | rfl | rfl | rfl | rfl | rfl | rfl
  · exact lift 768 1024 (by omega) (by omega) inb_S1024x1536_S256x512_768_1024 _ _ (pieceA_768_1024 _ _ _ (iblk m c 3 t))
  · exact lift 768 512 (by omega) (by omega) inb_S1024x1536_S256x512_768_512 _ _ (pieceA_768_512 _ _ _ (iblk m c 3 t))
  · exact lift 768 0 (by omega) (by omega) inb_S1024x1536_S256x512_768_0 _ _ (pieceA_768_0 _ _ _ (iblk m c 3 t))
  · exact lift 512 1024 (by omega) (by omega) inb_S1024x1536_S256x512_512_1024 _ _ (pieceA_512_1024 _ _ _ (iblk m c 3 t))
  · exact lift 512 512 (by omega) (by omega) inb_S1024x1536_S256x512_512_512 _ _ (pieceA_512_512 _ _ _ (iblk m c 3 t))
  · exact lift 512 0 (by omega) (by omega) inb_S1024x1536_S256x512_512_0 _ _ (pieceA_512_0 _ _ _ (iblk m c 3 t))
  · exact lift 256 1024 (by omega) (by omega) inb_S1024x1536_S256x512_256_1024 _ _ (pieceA_256_1024 _ _ _ (iblk m c 3 t))
  · exact lift 256 512 (by omega) (by omega) inb_S1024x1536_S256x512_256_512 _ _ (pieceA_256_512 _ _ _ (iblk m c 3 t))
  · exact lift 256 0 (by omega) (by omega) inb_S1024x1536_S256x512_256_0 _ _ (pieceA_256_0 _ _ _ (iblk m c 3 t))
  · exact lift 0 1024 (by omega) (by omega) inb_S1024x1536_S256x512_0_1024 _ _ (pieceA_0_1024 _ _ _ (iblk m c 3 t))
  · exact lift 0 512 (by omega) (by omega) inb_S1024x1536_S256x512_0_512 _ _ (pieceA_0_512 _ _ _ (iblk m c 3 t))
  · exact lift 0 0 (by omega) (by omega) inb_S1024x1536_S256x512_0_0 _ _ (pieceA_0_0 _ _ _ (iblk m c 3 t))

theorem outB (h0 : ¬t.val % 4 = 0) (h1 : t.val % 4 = 1) (h2 : ¬t.val % 4 = 2) (h3 : ¬t.val % 4 = 3) (r : Fin 1024) (l : Fin 1536) : (outsAt0 (F := Ideal) m c t.val t.isLt).1 (ix2 r l) = tile (fun r k => (outsAt0 (F := Ideal) m c (t.val - 1) (Nat.lt_of_le_of_lt (Nat.sub_le _ _) t.isLt)).2.2.2.2 (ix2 r k)) (iblk m c 2 t) (lower (iblk m c 3 t)) 1 r l := by
  rw [outsAt0_B m c t h0 h1 h2 h3]
  frame_out
  simp only [read_unread_whole]
  refine View.canon_apply_of_pieces (Val := Elt Ideal) (e := .f32) (fun y => tile (fun r k => (outsAt0 (F := Ideal) m c (t.val - 1) (Nat.lt_of_le_of_lt (Nat.sub_le _ _) t.isLt)).2.2.2.2 (ix2 r k)) (iblk m c 2 t) (lower (iblk m c 3 t)) 1 (y 0) (y 1)) _ ?_ (ix2 r l) (View.cover_of_tiledL (s := S1024x1536) _ S256x512.size (by sl_kernel_rfl) (ix2 r l))
  intro p hp
  simp only [List.mem_cons, List.not_mem_nil, or_false] at hp
  rcases hp with rfl | rfl | rfl | rfl | rfl | rfl | rfl | rfl | rfl | rfl | rfl | rfl
  · exact lift 768 1024 (by omega) (by omega) inb_S1024x1536_S256x512_768_1024 _ _ (pieceB_768_1024 _ _ (iblk m c 3 t))
  · exact lift 768 512 (by omega) (by omega) inb_S1024x1536_S256x512_768_512 _ _ (pieceB_768_512 _ _ (iblk m c 3 t))
  · exact lift 768 0 (by omega) (by omega) inb_S1024x1536_S256x512_768_0 _ _ (pieceB_768_0 _ _ (iblk m c 3 t))
  · exact lift 512 1024 (by omega) (by omega) inb_S1024x1536_S256x512_512_1024 _ _ (pieceB_512_1024 _ _ (iblk m c 3 t))
  · exact lift 512 512 (by omega) (by omega) inb_S1024x1536_S256x512_512_512 _ _ (pieceB_512_512 _ _ (iblk m c 3 t))
  · exact lift 512 0 (by omega) (by omega) inb_S1024x1536_S256x512_512_0 _ _ (pieceB_512_0 _ _ (iblk m c 3 t))
  · exact lift 256 1024 (by omega) (by omega) inb_S1024x1536_S256x512_256_1024 _ _ (pieceB_256_1024 _ _ (iblk m c 3 t))
  · exact lift 256 512 (by omega) (by omega) inb_S1024x1536_S256x512_256_512 _ _ (pieceB_256_512 _ _ (iblk m c 3 t))
  · exact lift 256 0 (by omega) (by omega) inb_S1024x1536_S256x512_256_0 _ _ (pieceB_256_0 _ _ (iblk m c 3 t))
  · exact lift 0 1024 (by omega) (by omega) inb_S1024x1536_S256x512_0_1024 _ _ (pieceB_0_1024 _ _ (iblk m c 3 t))
  · exact lift 0 512 (by omega) (by omega) inb_S1024x1536_S256x512_0_512 _ _ (pieceB_0_512 _ _ (iblk m c 3 t))
  · exact lift 0 0 (by omega) (by omega) inb_S1024x1536_S256x512_0_0 _ _ (pieceB_0_0 _ _ (iblk m c 3 t))

theorem outC (h0 : ¬t.val % 4 = 0) (h1 : ¬t.val % 4 = 1) (h2 : t.val % 4 = 2) (h3 : ¬t.val % 4 = 3) (r : Fin 1024) (l : Fin 1536) : (outsAt0 (F := Ideal) m c t.val t.isLt).1 (ix2 r l) = tile (fun r k => (outsAt0 (F := Ideal) m c (t.val - 1) (Nat.lt_of_le_of_lt (Nat.sub_le _ _) t.isLt)).2.2.2.2 (ix2 r k)) (iblk m c 2 t) (lower (iblk m c 3 t)) 2 r l := by
  rw [outsAt0_C m c t h0 h1 h2 h3]
  frame_out
  simp only [read_unread_whole]
  refine View.canon_apply_of_pieces (Val := Elt Ideal) (e := .f32) (fun y => tile (fun r k => (outsAt0 (F := Ideal) m c (t.val - 1) (Nat.lt_of_le_of_lt (Nat.sub_le _ _) t.isLt)).2.2.2.2 (ix2 r k)) (iblk m c 2 t) (lower (iblk m c 3 t)) 2 (y 0) (y 1)) _ ?_ (ix2 r l) (View.cover_of_tiledL (s := S1024x1536) _ S256x512.size (by sl_kernel_rfl) (ix2 r l))
  intro p hp
  simp only [List.mem_cons, List.not_mem_nil, or_false] at hp
  rcases hp with rfl | rfl | rfl | rfl | rfl | rfl | rfl | rfl | rfl | rfl | rfl | rfl
  · exact lift 768 1024 (by omega) (by omega) inb_S1024x1536_S256x512_768_1024 _ _ (pieceC_768_1024 _ _ (iblk m c 3 t))
  · exact lift 768 512 (by omega) (by omega) inb_S1024x1536_S256x512_768_512 _ _ (pieceC_768_512 _ _ (iblk m c 3 t))
  · exact lift 768 0 (by omega) (by omega) inb_S1024x1536_S256x512_768_0 _ _ (pieceC_768_0 _ _ (iblk m c 3 t))
  · exact lift 512 1024 (by omega) (by omega) inb_S1024x1536_S256x512_512_1024 _ _ (pieceC_512_1024 _ _ (iblk m c 3 t))
  · exact lift 512 512 (by omega) (by omega) inb_S1024x1536_S256x512_512_512 _ _ (pieceC_512_512 _ _ (iblk m c 3 t))
  · exact lift 512 0 (by omega) (by omega) inb_S1024x1536_S256x512_512_0 _ _ (pieceC_512_0 _ _ (iblk m c 3 t))
  · exact lift 256 1024 (by omega) (by omega) inb_S1024x1536_S256x512_256_1024 _ _ (pieceC_256_1024 _ _ (iblk m c 3 t))
  · exact lift 256 512 (by omega) (by omega) inb_S1024x1536_S256x512_256_512 _ _ (pieceC_256_512 _ _ (iblk m c 3 t))
  · exact lift 256 0 (by omega) (by omega) inb_S1024x1536_S256x512_256_0 _ _ (pieceC_256_0 _ _ (iblk m c 3 t))
  · exact lift 0 1024 (by omega) (by omega) inb_S1024x1536_S256x512_0_1024 _ _ (pieceC_0_1024 _ _ (iblk m c 3 t))
  · exact lift 0 512 (by omega) (by omega) inb_S1024x1536_S256x512_0_512 _ _ (pieceC_0_512 _ _ (iblk m c 3 t))
  · exact lift 0 0 (by omega) (by omega) inb_S1024x1536_S256x512_0_0 _ _ (pieceC_0_0 _ _ (iblk m c 3 t))

theorem outD (h0 : ¬t.val % 4 = 0) (h1 : ¬t.val % 4 = 1) (h2 : ¬t.val % 4 = 2) (h3 : t.val % 4 = 3) (r : Fin 1024) (l : Fin 1536) : (outsAt0 (F := Ideal) m c t.val t.isLt).1 (ix2 r l) = tile (fun r k => (outsAt0 (F := Ideal) m c (t.val - 1) (Nat.lt_of_le_of_lt (Nat.sub_le _ _) t.isLt)).2.2.2.2 (ix2 r k)) (iblk m c 2 t) (lower (iblk m c 3 t)) 3 r l := by
  rw [outsAt0_D m c t h0 h1 h2 h3]
  frame_out
  simp only [read_unread_whole]
  refine View.canon_apply_of_pieces (Val := Elt Ideal) (e := .f32) (fun y => tile (fun r k => (outsAt0 (F := Ideal) m c (t.val - 1) (Nat.lt_of_le_of_lt (Nat.sub_le _ _) t.isLt)).2.2.2.2 (ix2 r k)) (iblk m c 2 t) (lower (iblk m c 3 t)) 3 (y 0) (y 1)) _ ?_ (ix2 r l) (View.cover_of_tiledL (s := S1024x1536) _ S256x512.size (by sl_kernel_rfl) (ix2 r l))
  intro p hp
  simp only [List.mem_cons, List.not_mem_nil, or_false] at hp
  rcases hp with rfl | rfl | rfl | rfl | rfl | rfl | rfl | rfl | rfl | rfl | rfl | rfl
  · exact lift 768 1024 (by omega) (by omega) inb_S1024x1536_S256x512_768_1024 _ _ (pieceD_768_1024 _ _ (iblk m c 3 t))
  · exact lift 768 512 (by omega) (by omega) inb_S1024x1536_S256x512_768_512 _ _ (pieceD_768_512 _ _ (iblk m c 3 t))
  · exact lift 768 0 (by omega) (by omega) inb_S1024x1536_S256x512_768_0 _ _ (pieceD_768_0 _ _ (iblk m c 3 t))
  · exact lift 512 1024 (by omega) (by omega) inb_S1024x1536_S256x512_512_1024 _ _ (pieceD_512_1024 _ _ (iblk m c 3 t))
  · exact lift 512 512 (by omega) (by omega) inb_S1024x1536_S256x512_512_512 _ _ (pieceD_512_512 _ _ (iblk m c 3 t))
  · exact lift 512 0 (by omega) (by omega) inb_S1024x1536_S256x512_512_0 _ _ (pieceD_512_0 _ _ (iblk m c 3 t))
  · exact lift 256 1024 (by omega) (by omega) inb_S1024x1536_S256x512_256_1024 _ _ (pieceD_256_1024 _ _ (iblk m c 3 t))
  · exact lift 256 512 (by omega) (by omega) inb_S1024x1536_S256x512_256_512 _ _ (pieceD_256_512 _ _ (iblk m c 3 t))
  · exact lift 256 0 (by omega) (by omega) inb_S1024x1536_S256x512_256_0 _ _ (pieceD_256_0 _ _ (iblk m c 3 t))
  · exact lift 0 1024 (by omega) (by omega) inb_S1024x1536_S256x512_0_1024 _ _ (pieceD_0_1024 _ _ (iblk m c 3 t))
  · exact lift 0 512 (by omega) (by omega) inb_S1024x1536_S256x512_0_512 _ _ (pieceD_0_512 _ _ (iblk m c 3 t))
  · exact lift 0 0 (by omega) (by omega) inb_S1024x1536_S256x512_0_0 _ _ (pieceD_0_0 _ _ (iblk m c 3 t))

theorem carryA_of (h0 : t.val % 4 = 0) (h1 : ¬t.val % 4 = 1) (h2 : ¬t.val % 4 = 2) (h3 : ¬t.val % 4 = 3) (N : Fin 1024 → Fin 2048 → EReal) (hN : ∀ r l, normRow (iblk m c 0 t) (iblk m c 1 t) r l = N r l)
    (r : Fin 1024) (l : Fin 2048) : (outsAt0 (F := Ideal) m c t.val t.isLt).2.2.2.2 (ix2 r l) = N r l := by
  rw [outsAt0_A m c t h0 h1 h2 h3]
  frame_out
  refine View.canon_apply_of_pieces (Val := Elt Ideal) (e := .bf16) (fun y : S1024x2048.Idx => N (y 0) (y 1)) _ ?_ (ix2 r l) (View.cover_of_tiledL (s := S1024x2048) _ S256x2048.size (by sl_kernel_rfl) (ix2 r l))
  intro p hp
  simp only [List.mem_cons, List.not_mem_nil, or_false] at hp
  rcases hp with rfl | rfl | rfl | rfl
  · refine liftRow 768 (by omega) inb_S1024x2048_S256x2048_768_0 N _ fun r l => ?_
    refine Eq.trans ?_ (hN _ l)
    unfold normRow
    dsimp only
    pointwise [k0_pay60, pay59_apply]
  · refine liftRow 512 (by omega) inb_S1024x2048_S256x2048_512_0 N _ fun r l => ?_
    refine Eq.trans ?_ (hN _ l)
    unfold normRow
    dsimp only
    pointwise [k0_pay19, pay18_apply]
  · refine liftRow 256 (by omega) inb_S1024x2048_S256x2048_256_0 N _ fun r l => ?_
    refine Eq.trans ?_ (hN _ l)
    unfold normRow
    dsimp only
    pointwise [k0_pay13, pay12_apply]
  · refine liftRow 0 (by omega) inb_S1024x2048_S256x2048_0_0 N _ fun r l => ?_
    refine Eq.trans ?_ (hN _ l)
    unfold normRow
    dsimp only
    pointwise [k0_pay7, pay6_apply]

theorem carryA (h0 : t.val % 4 = 0) (h1 : ¬t.val % 4 = 1) (h2 : ¬t.val % 4 = 2) (h3 : ¬t.val % 4 = 3) (r : Fin 1024) (l : Fin 2048) : (outsAt0 (F := Ideal) m c t.val t.isLt).2.2.2.2 (ix2 r l) = normRow (iblk m c 0 t) (iblk m c 1 t) r l :=
  carryA_of m c t h0 h1 h2 h3 _ (fun _ _ => rfl) r l

theorem carryB (h0 : ¬t.val % 4 = 0) (h1 : t.val % 4 = 1) (h2 : ¬t.val % 4 = 2) (h3 : ¬t.val % 4 = 3) : (outsAt0 (F := Ideal) m c t.val t.isLt).2.2.2.2 = (outsAt0 (F := Ideal) m c (t.val - 1) (Nat.lt_of_le_of_lt (Nat.sub_le _ _) t.isLt)).2.2.2.2 := by
  rw [outsAt0_B m c t h0 h1 h2 h3]
  rfl

theorem carryC (h0 : ¬t.val % 4 = 0) (h1 : ¬t.val % 4 = 1) (h2 : t.val % 4 = 2) (h3 : ¬t.val % 4 = 3) : (outsAt0 (F := Ideal) m c t.val t.isLt).2.2.2.2 = (outsAt0 (F := Ideal) m c (t.val - 1) (Nat.lt_of_le_of_lt (Nat.sub_le _ _) t.isLt)).2.2.2.2 := by
  rw [outsAt0_C m c t h0 h1 h2 h3]
  rfl

theorem carryD (h0 : ¬t.val % 4 = 0) (h1 : ¬t.val % 4 = 1) (h2 : ¬t.val % 4 = 2) (h3 : t.val % 4 = 3) : (outsAt0 (F := Ideal) m c t.val t.isLt).2.2.2.2 = (outsAt0 (F := Ideal) m c (t.val - 1) (Nat.lt_of_le_of_lt (Nat.sub_le _ _) t.isLt)).2.2.2.2 := by
  rw [outsAt0_D m c t h0 h1 h2 h3]
  rfl

theorem cast8 (y : S64x2048.Idx) : (outsAt0 (F := Ideal) m c t.val t.isLt).2.1 y = iblk m c 4 t y := by
  have key : (outsAt0 (F := Ideal) m c t.val t.isLt).2.1 y = k0_pay55 (F := Ideal) (iblk m c 4 t) y := by
    by_cases h0 : t.val % 4 = 0
    · rw [outsAt0_A m c t h0 (by omega) (by omega) (by omega)]
      frame_out
    by_cases h1 : t.val % 4 = 1
    · rw [outsAt0_B m c t h0 h1 (by omega) (by omega)]
      frame_out
    by_cases h2 : t.val % 4 = 2
    · rw [outsAt0_C m c t h0 h1 h2 (by omega)]
      frame_out
    · rw [outsAt0_D m c t h0 h1 h2 (by omega)]
      frame_out
  rw [key]
  pointwise [k0_pay55]

theorem cast9 (y : S16x2048.Idx) : (outsAt0 (F := Ideal) m c t.val t.isLt).2.2.1 y = iblk m c 5 t y := by
  have key : (outsAt0 (F := Ideal) m c t.val t.isLt).2.2.1 y = k0_pay56 (F := Ideal) (iblk m c 5 t) y := by
    by_cases h0 : t.val % 4 = 0
    · rw [outsAt0_A m c t h0 (by omega) (by omega) (by omega)]
      frame_out
    by_cases h1 : t.val % 4 = 1
    · rw [outsAt0_B m c t h0 h1 (by omega) (by omega)]
      frame_out
    by_cases h2 : t.val % 4 = 2
    · rw [outsAt0_C m c t h0 h1 h2 (by omega)]
      frame_out
    · rw [outsAt0_D m c t h0 h1 h2 (by omega)]
      frame_out
  rw [key]
  pointwise [k0_pay56]

theorem cast10 (y : S64x2048.Idx) : (outsAt0 (F := Ideal) m c t.val t.isLt).2.2.2.1 y = iblk m c 6 t y := by
  have key : (outsAt0 (F := Ideal) m c t.val t.isLt).2.2.2.1 y = k0_pay57 (F := Ideal) (iblk m c 6 t) y := by
    by_cases h0 : t.val % 4 = 0
    · rw [outsAt0_A m c t h0 (by omega) (by omega) (by omega)]
      frame_out
    by_cases h1 : t.val % 4 = 1
    · rw [outsAt0_B m c t h0 h1 (by omega) (by omega)]
      frame_out
    by_cases h2 : t.val % 4 = 2
    · rw [outsAt0_C m c t h0 h1 h2 (by omega)]
      frame_out
    · rw [outsAt0_D m c t h0 h1 h2 (by omega)]
      frame_out
  rw [key]
  pointwise [k0_pay57]

end InEven

end
-- ==== Proof.InEvenKern.lean ====
/- The even layer's input projection: the kernel's four result arrays are closed forms of its arguments. -/
module

public import proofs.«01_k».proof.Proof.InEvenPoint

@[expose] public section

set_option maxRecDepth 16384

noncomputable section

namespace InEven

open Idealize.ShloMosaic Idealize.ShloMosaic.TcCoe Idealize.SL.Sem Idealize.ShloMosaic.Tactic
open Cert.InEvenIdeal Cert.InEvenIdeal.Gen Layer
open Idealize.ShloMosaic.Pipeline (Dat)

variable (m : (ℓ : Loc nD τ sig) → Buf (Elt Ideal) ℓ)

/-- Argument `r` as launched. -/
abbrev arg (c : Dev nD) (r : Ref sig .tc) := m ((c : Thread nD τ).loc r)

/-- A row of the input normalised. -/
def inRow (a0 : (⟨S4x2048x2048, .f32⟩ : BufTy).Contents (Elt Ideal)) (a1 : (⟨S1x2048, .f32⟩ : BufTy).Contents (Elt Ideal)) (r : Fin 8192) : Fin 2048 → EReal :=
  rms (fun k => a0 (ix3 (seqOf r) (posOf r) k)) (fun k => a1 (ix2 0 k))

/-- An entry of the activated projection, of the arguments. -/
def actAt (a0 : (⟨S4x2048x2048, .f32⟩ : BufTy).Contents (Elt Ideal)) (a1 : (⟨S1x2048, .f32⟩ : BufTy).Contents (Elt Ideal))
    (a2 : (⟨S1x2048x6144, .f32⟩ : BufTy).Contents (Elt Ideal)) (a3 : (⟨S2x1024, .f32⟩ : BufTy).Contents (Elt Ideal)) (r : Fin 8192) (n : Fin 6144) : EReal :=
  act (lower a3) n.val (∑ k, inRow a0 a1 r k * a2 (ix3 0 k n))

theorem idx : ∀ t : Fin cfg0.N, win0_0.index t = ![t.val / 4, 0] ∧ win0_1.index t = ![0, 0] ∧ win0_2.index t = ![0, t.val % 4] ∧ win0_3.index t = ![0, 0] ∧ win0_4.index t = ![t.val, 0] ∧ win0_5.index t = ![t.val, 0] ∧ win0_6.index t = ![t.val, 0] ∧ win0_7.index t = ![t.val / 4, t.val % 4] ∧ win0_8.index t = ![t.val, 0] ∧ win0_9.index t = ![t.val, 0] ∧ win0_10.index t = ![t.val, 0] :=
  (by decide +kernel : ∀ t : Fin grid0.N, win0_0.index t = ![t.val / 4, 0] ∧ win0_1.index t = ![0, 0] ∧ win0_2.index t = ![0, t.val % 4] ∧ win0_3.index t = ![0, 0] ∧ win0_4.index t = ![t.val, 0] ∧ win0_5.index t = ![t.val, 0] ∧ win0_6.index t = ![t.val, 0] ∧ win0_7.index t = ![t.val / 4, t.val % 4] ∧ win0_8.index t = ![t.val, 0] ∧ win0_9.index t = ![t.val, 0] ∧ win0_10.index t = ![t.val, 0])

variable (c : Dev nD) (t : Fin cfg0.N)

theorem lt32 : t.val < 32 := t.isLt

/-- The array row of a block row. -/
def rowOf (r : Fin 1024) : Fin 8192 := ⟨1024 * (t.val / 4) + r.val, by have := lt32 t; omega⟩
/-- The array column of a block column. -/
def colOf (l : Fin 1536) : Fin 6144 := ⟨1536 * (t.val % 4) + l.val, by omega⟩

theorem blk0 (r : Fin 1024) (k : Fin 2048) : iblk m c 0 t (ix2 r k) = arg m c main_arg0 (ix3 (seqOf (rowOf t r)) (posOf (rowOf t r)) k) := by
  blk_ext! [iblk, V, idx t, rowOf, seqOf, posOf]

theorem blk1 (k : Fin 2048) : iblk m c 1 t (ix2 0 k) = arg m c main_arg1 (ix2 0 k) := by
  blk_ext! [iblk, V, idx t]

theorem blk2 (k : Fin 2048) (l : Fin 1536) : iblk m c 2 t (ix2 k l) = arg m c main_arg2 (ix3 0 k (colOf t l)) := by
  blk_ext! [iblk, V, idx t, colOf]

theorem blk3 (i : Fin 2) (j : Fin 1024) : iblk m c 3 t (ix2 i j) = arg m c main_arg3 (ix2 i j) := by
  blk_ext [iblk, V, idx t]

theorem blk4 (r : Fin 64) (k : Fin 2048) : iblk m c 4 t (ix2 r k) = arg m c main_arg4 (ix3 0 ⟨64 * t.val + r.val, by have := lt32 t; omega⟩ k) := by
  blk_ext! [iblk, V, idx t]

theorem blk5 (r : Fin 16) (k : Fin 2048) : iblk m c 5 t (ix2 r k) = arg m c main_arg5 (ix3 ⟨(16 * t.val + r.val) / 256, by have := lt32 t; omega⟩ ⟨(16 * t.val + r.val) % 256, by omega⟩ k) := by
  blk_ext! [iblk, V, idx t]

theorem blk6 (r : Fin 64) (k : Fin 2048) : iblk m c 6 t (ix2 r k) = arg m c main_arg6 (ix3 0 ⟨64 * t.val + r.val, by have := lt32 t; omega⟩ k) := by
  blk_ext! [iblk, V, idx t]

theorem normRow_eq (r : Fin 1024) : normRow (iblk m c 0 t) (iblk m c 1 t) r = inRow (arg m c main_arg0) (arg m c main_arg1) (rowOf t r) := by
  unfold normRow inRow
  simp only [blk0, blk1]

theorem lower_eq : lower (iblk m c 3 t) = lower (arg m c main_arg3) := by
  funext j
  unfold lower
  simp only [blk3]

/-- Every point leaves the normalised rows of its row block in the scratch. -/
theorem carried (n : ℕ) : ∀ (h : n < cfg0.N) (r : Fin 1024) (l : Fin 2048),
    (outsAt0 (F := Ideal) m c n h).2.2.2.2 (ix2 r l) = inRow (arg m c main_arg0) (arg m c main_arg1) (rowOf ⟨n, h⟩ r) l := by
  induction n with
  | zero => exact fun h r l => (carryA m c ⟨0, h⟩ (by rfl) (by show ¬0 % 4 = 1; omega) (by show ¬0 % 4 = 2; omega) (by show ¬0 % 4 = 3; omega) r l).trans (congrFun (normRow_eq m c ⟨0, h⟩ r) l)
  | succ n ih =>
    intro h r l
    by_cases h0 : (n + 1) % 4 = 0
    · exact (carryA m c ⟨n + 1, h⟩ h0 (by show ¬(n + 1) % 4 = 1; omega) (by show ¬(n + 1) % 4 = 2; omega) (by show ¬(n + 1) % 4 = 3; omega) r l).trans (congrFun (normRow_eq m c ⟨n + 1, h⟩ r) l)
    have e : rowOf ⟨n + 1, h⟩ r = rowOf ⟨n, by omega⟩ r := Fin.ext (by show 1024 * ((n + 1) / 4) + r.val = 1024 * (n / 4) + r.val; omega)
    rw [e, ← ih (by omega) r l]
    by_cases h1 : (n + 1) % 4 = 1
    · exact congrFun (carryB m c ⟨n + 1, h⟩ h0 h1 (by show ¬(n + 1) % 4 = 2; omega) (by show ¬(n + 1) % 4 = 3; omega)) _
    by_cases h2 : (n + 1) % 4 = 2
    · exact congrFun (carryC m c ⟨n + 1, h⟩ h0 h1 h2 (by show ¬(n + 1) % 4 = 3; omega)) _
    · exact congrFun (carryD m c ⟨n + 1, h⟩ h0 h1 h2 (by show (n + 1) % 4 = 3; omega)) _

/-- The rows a point reads from the scratch, where the point before left them. -/
theorem before (h0 : ¬t.val % 4 = 0) (r : Fin 1024) :
    (fun k => (outsAt0 (F := Ideal) m c (t.val - 1) (Nat.lt_of_le_of_lt (Nat.sub_le _ _) t.isLt)).2.2.2.2 (ix2 r k)) = inRow (arg m c main_arg0) (arg m c main_arg1) (rowOf t r) := by
  funext k
  rw [carried]
  congr 1
  exact Fin.ext (by show 1024 * ((t.val - 1) / 4) + r.val = 1024 * (t.val / 4) + r.val; omega)

theorem tile_eq (hn : Fin 1024 → Fin 2048 → EReal) (hh : ∀ r, hn r = inRow (arg m c main_arg0) (arg m c main_arg1) (rowOf t r)) (jt : ℕ) (hj : t.val % 4 = jt) (r : Fin 1024) (l : Fin 1536) :
    tile hn (iblk m c 2 t) (lower (iblk m c 3 t)) jt r l = actAt (arg m c main_arg0) (arg m c main_arg1) (arg m c main_arg2) (arg m c main_arg3) (rowOf t r) (colOf t l) := by
  subst hj
  unfold tile actAt
  rw [hh, lower_eq]
  simp only [blk2]
  rfl

/-- The activated projection as the closed form. -/
def outK : S8192x6144.Idx → EReal := fun y => actAt (arg m c main_arg0) (arg m c main_arg1) (arg m c main_arg2) (arg m c main_arg3) (y 0) (y 1)
/-- The cast weights of the even layer's output projection. -/
def wK : S2048x2048.Idx → EReal := fun y => arg m c main_arg4 (ix3 0 (y 0) (y 1))
/-- The cast embedding weights, both layers' rows under one another. -/
def pK : S512x2048.Idx → EReal := fun y => arg m c main_arg5 (ix3 ⟨(y 0).val / 256, by have := (y 0).isLt; change _ < 512 at this; omega⟩ ⟨(y 0).val % 256, by omega⟩ (y 1))
/-- The cast weights of the last layer's output projection. -/
def oK : S2048x2048.Idx → EReal := fun y => arg m c main_arg6 (ix3 0 (y 0) (y 1))

theorem point7 (r : Fin 1024) (l : Fin 1536) : (outsAt0 (F := Ideal) m c t.val t.isLt).1 (ix2 r l) = outK m c (ix2 (rowOf t r) (colOf t l)) := by
  by_cases h0 : t.val % 4 = 0
  · exact (outA m c t h0 (by omega) (by omega) (by omega) r l).trans (tile_eq m c t _ (normRow_eq m c t) 0 h0 r l)
  by_cases h1 : t.val % 4 = 1
  · exact (outB m c t h0 h1 (by omega) (by omega) r l).trans (tile_eq m c t _ (before m c t h0) 1 h1 r l)
  by_cases h2 : t.val % 4 = 2
  · exact (outC m c t h0 h1 h2 (by omega) r l).trans (tile_eq m c t _ (before m c t h0) 2 h2 r l)
  · exact (outD m c t h0 h1 h2 (by omega) r l).trans (tile_eq m c t _ (before m c t h0) 3 (by omega) r l)

theorem array7 : (dats m 0 c).arrAt 7 cfg0.N = outK m c := by
  refine (dats m 0 c).arrAt_eq_of_covers 7 _ (by decide +kernel) fun t hf y => ?_
  blk_simp
  rw [after0_7]
  obtain ⟨r, l, rfl⟩ : ∃ (r : Fin 1024) (l : Fin 1536), y = ix2 r l := ⟨y 0, y 1, by pointwise []⟩
  refine (point7 m c t r l).trans (congrArg (outK m c) ?_)
  blk_ext [idx t, rowOf, colOf]

theorem array8 : (dats m 0 c).arrAt 8 cfg0.N = wK m c := by
  refine (dats m 0 c).arrAt_eq_of_covers 8 _ (by decide +kernel) fun t hf y => ?_
  blk_simp
  rw [after0_8]
  obtain ⟨r, l, rfl⟩ : ∃ (r : Fin 64) (l : Fin 2048), y = ix2 r l := ⟨y 0, y 1, by pointwise []⟩
  refine ((cast8 m c t _).trans (blk4 m c t r l)).trans (?_ : wK m c (ix2 ⟨64 * t.val + r.val, by have := lt32 t; omega⟩ l) = _)
  refine congrArg (wK m c) ?_
  blk_ext [idx t]

theorem array9 : (dats m 0 c).arrAt 9 cfg0.N = pK m c := by
  refine (dats m 0 c).arrAt_eq_of_covers 9 _ (by decide +kernel) fun t hf y => ?_
  blk_simp
  rw [after0_9]
  obtain ⟨r, l, rfl⟩ : ∃ (r : Fin 16) (l : Fin 2048), y = ix2 r l := ⟨y 0, y 1, by pointwise []⟩
  refine ((cast9 m c t _).trans (blk5 m c t r l)).trans (?_ : pK m c (ix2 ⟨16 * t.val + r.val, by have := lt32 t; omega⟩ l) = _)
  refine congrArg (pK m c) ?_
  blk_ext [idx t]

theorem array10 : (dats m 0 c).arrAt 10 cfg0.N = oK m c := by
  refine (dats m 0 c).arrAt_eq_of_covers 10 _ (by decide +kernel) fun t hf y => ?_
  blk_simp
  rw [after0_10]
  obtain ⟨r, l, rfl⟩ : ∃ (r : Fin 64) (l : Fin 2048), y = ix2 r l := ⟨y 0, y 1, by pointwise []⟩
  refine ((cast10 m c t _).trans (blk6 m c t r l)).trans (?_ : oK m c (ix2 ⟨64 * t.val + r.val, by have := lt32 t; omega⟩ l) = _)
  refine congrArg (oK m c) ?_
  blk_ext [idx t]

end InEven

end
-- ==== Proof.InEvenRef.lean ====
/- The even layer's input projection: the reference's results are the same closed forms. -/
module

public import proofs.«01_k».proof.Proof.InEvenKern
public import proofs.«01_k».proof.Proof.Gen.InEvenRefIdeal.Run
public import Idealize.ShloMosaic.Lib.Pointwise

@[expose] public section

set_option maxRecDepth 16384

noncomputable section

namespace InEven.Ref

open Idealize.ShloMosaic Idealize.ShloMosaic.TcCoe Idealize.SL.Sem Idealize.ShloMosaic.Tactic Idealize.ShloMosaic.StableHlo
open Cert.InEvenRefIdeal Cert.InEvenRefIdeal.Gen Layer

/-- The normalised rows, as the program writes them. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem norm_apply (x : FVec Ideal S8192x2048 .f32) (g : FVec Ideal S2048 .f32) (r : Fin 8192) (l : Fin 2048) :
    norm x g (ix2 r l) = rms (fun k => x (ix2 r k)) (fun k => g (ix1 k)) l := by
  pointwise [norm]
  simp only [rms, meanSq]
  rfl

/-- The projected rows. -/
def proj (a0 : FVec Ideal S4x2048x2048 .f32) (a1 : FVec Ideal S1x2048 .f32) (a2 : FVec Ideal S1x2048x6144 .f32) : FVec Ideal S8192x6144 .f32 :=
  Host.dotGeneral dot_S8192x2048_S2048x6144_S8192x6144_1_0_0_1_n_n none
    (norm (shapeCast _ a0 shapeCasts_S4x2048x2048_S8192x2048) (shapeCast _ a1 shapeCasts_S1x2048_S2048)) (shapeCast _ a2 shapeCasts_S1x2048x6144_S2048x6144)

theorem proj_apply (a0 : FVec Ideal S4x2048x2048 .f32) (a1 : FVec Ideal S1x2048 .f32) (a2 : FVec Ideal S1x2048x6144 .f32) (r : Fin 8192) (n : Fin 6144) :
    proj a0 a1 a2 (ix2 r n) = ∑ k, inRow a0 a1 r k * a2 (ix3 0 k n) := by
  have e : proj a0 a1 a2 (ix2 r n) = ∑ k : Fin 2048, norm (shapeCast _ a0 shapeCasts_S4x2048x2048_S8192x2048) (shapeCast _ a1 shapeCasts_S1x2048_S2048) (ix2 r k) * a2 (ix3 0 k n) := by
    pointwise [proj]
  rw [e]
  refine Finset.sum_congr rfl fun k _ => congrArg (· * _) ((norm_apply _ _ r k).trans ?_)
  unfold inRow
  congr 1
  · funext j
    pointwise []
    rfl
  · funext j
    pointwise []

/-- The softmax over the layer slots, as the program writes it. -/
def soft (x : FVec Ideal S2x1024 .f32) : FVec Ideal S2x1024 .f32 :=
  Host.divf (Host.exp (subf x (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf x (constant S_ .f32 0xFF800000#32) reducesTo_S2x1024_S1024_d0 h_S_))))))
    (broadcastInDim S2x1024 ![0, 1] bcast_S1x1024_S2x1024_0_1 (broadcastInDim S1x1024 ![1] bcast_S1024_S1x1024_1 (Host.reduceAdd
      (Host.exp (subf x (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf x (constant S_ .f32 0xFF800000#32) reducesTo_S2x1024_S1024_d0 h_S_))))))
      (constant S_ .f32 0x00000000#32) reducesTo_S2x1024_S1024_d0 h_S_)))

theorem soft_apply (x : FVec Ideal S2x1024 .f32) (j : Fin 1024) : soft x (ix2 0 j) = lower x j := by
  have e : ∀ (b : EReal) (f : Fin 2 → EReal), max b (Finset.fold max b f Finset.univ) = Finset.fold max b f Finset.univ :=
    fun b f => max_eq_right ((Finset.le_fold_max _).2 (Or.inl le_rfl))
  pointwise [soft]
  simp only [e]
  rfl

/-- The first row of the running sum over the layer slots. -/
def bound (p : FVec Ideal S2x1024 .f32) : FVec Ideal S1024 .f32 :=
  shapeCast _ (extractStridedSlice S1x1024 ![0, 0] (Host.reduceWindowAdd ![2, 1] ![1, 1] ![1, 0] ![0, 0] p (broadcastInDim S_ ![] bcast_S_S_ (constant S_ .f32 0x00000000#32)) reduceWindows_S2x1024_S2x1024_w2s1p1_0_w1s1p0_0 h_S_) slices_S2x1024_S1x1024_0_0) shapeCasts_S1x1024_S1024

/-- The first window of the running sum holds one place off the array and the first row. -/
theorem window_first (p : FVec Ideal S2x1024 .f32) (v : EReal) (j : Fin 1024) :
    Ideal.hostReduceWindowAdd ![2, 1] ![1, 1] ![1, 0] ![0, 0] reduceWindows_S2x1024_S2x1024_w2s1p1_0_w1s1p0_0 p v (ix2 0 j) = v + v + p (ix2 0 j) := by
  unfold Ideal.hostReduceWindowAdd Host.reduceWindow
  dsimp only
  have e : List.finRange (Shape.numel ⟨2, ![2, 1]⟩) = [⟨0, by decide⟩, ⟨1, by decide⟩] := by decide
  refine (congrArg (List.foldl _ v) e).trans ?_
  simp only [List.foldl_cons, List.foldl_nil]
  have w0 : ((Shape.rowMajor ⟨2, ![2, 1]⟩).symm ⟨0, by decide⟩ 0).val = 0 := by decide
  have w1 : ((Shape.rowMajor ⟨2, ![2, 1]⟩).symm ⟨1, by decide⟩ 0).val = 1 := by decide
  have w2 : ((Shape.rowMajor ⟨2, ![2, 1]⟩).symm ⟨1, by decide⟩ 1).val = 0 := by decide
  rw [dif_neg, dif_pos]
  · refine congrArg (fun y => v + v + p y) (funext fun a => Fin.ext ?_)
    fin_cases a
    · show 0 * 1 + ((Shape.rowMajor ⟨2, ![2, 1]⟩).symm ⟨1, by decide⟩ 0).val - 1 = 0
      rw [w1]
    · show j.val * 1 + ((Shape.rowMajor ⟨2, ![2, 1]⟩).symm ⟨1, by decide⟩ 1).val - 0 = j.val
      rw [w2]
      omega
  · intro a
    fin_cases a
    · show 1 ≤ 0 * 1 + ((Shape.rowMajor ⟨2, ![2, 1]⟩).symm ⟨1, by decide⟩ 0).val ∧ 0 * 1 + ((Shape.rowMajor ⟨2, ![2, 1]⟩).symm ⟨1, by decide⟩ 0).val - 1 < 2
      rw [w1]
      decide
    · show 0 ≤ j.val * 1 + ((Shape.rowMajor ⟨2, ![2, 1]⟩).symm ⟨1, by decide⟩ 1).val ∧ j.val * 1 + ((Shape.rowMajor ⟨2, ![2, 1]⟩).symm ⟨1, by decide⟩ 1).val - 0 < 1024
      rw [w2]
      omega
  · intro h
    have h0 : 1 ≤ 0 * 1 + ((Shape.rowMajor ⟨2, ![2, 1]⟩).symm ⟨0, by decide⟩ 0).val := (h 0).1
    rw [w0] at h0
    omega

theorem bound_apply (p : FVec Ideal S2x1024 .f32) (j : Fin 1024) : bound p (ix1 j) = p (ix2 0 j) := by
  have e : bound p (ix1 j) = Ideal.hostReduceWindowAdd ![2, 1] ![1, 1] ![1, 0] ![0, 0] reduceWindows_S2x1024_S2x1024_w2s1p1_0_w1s1p0_0 p
      ((broadcastInDim S_ ![] bcast_S_S_ (constant S_ .f32 0x00000000#32) : FVec Ideal S_ .f32) (Shape.Idx.first h_S_)) (ix2 0 j) := by
    refine (?_ : bound p (ix1 j) = Host.reduceWindowAdd ![2, 1] ![1, 1] ![1, 0] ![0, 0] p (broadcastInDim S_ ![] bcast_S_S_ (constant S_ .f32 0x00000000#32)) reduceWindows_S2x1024_S2x1024_w2s1p1_0_w1s1p0_0 h_S_ (ix2 0 j)).trans ?_
    · pointwise [bound]
    · with_reducible unfold Host.reduceWindowAdd
      exact congrFun (Ideal.hostReduceWindowAdd_def _ _ _ _ _ _ _ _) _
  rw [e, window_first]
  pointwise []

/-- `x` times its logistic, as the program writes it. -/
def silu (x : FVec Ideal S8192x1024 .f32) : FVec Ideal S8192x1024 .f32 :=
  mulf x (Host.divf (broadcastInDim S8192x1024 ![] bcast_S_S8192x1024 (constant S_ .f32 0x3F800000#32)) (addf (broadcastInDim S8192x1024 ![] bcast_S_S8192x1024 (constant S_ .f32 0x3F800000#32)) (Host.exp (Host.negf x))))

theorem silu_apply (x : FVec Ideal S8192x1024 .f32) (r : Fin 8192) (j : Fin 1024) : silu x (ix2 r j) = x (ix2 r j) * Ideal.logistic (x (ix2 r j)) := by
  pointwise [silu]
  rfl

/-- The decay above its lower bound, as the program writes it. -/
def decay (lb : FVec Ideal S1024 .f32) (x : FVec Ideal S8192x1024 .f32) : FVec Ideal S8192x1024 .f32 :=
  addf (broadcastInDim S8192x1024 ![0, 1] bcast_S1x1024_S8192x1024_0_1 (broadcastInDim S1x1024 ![1] bcast_S1024_S1x1024_1 lb))
    (mulf (broadcastInDim S8192x1024 ![0, 1] bcast_S1x1024_S8192x1024_0_1 (broadcastInDim S1x1024 ![1] bcast_S1024_S1x1024_1 (subf (broadcastInDim S1024 ![] bcast_S_S1024 (constant S_ .f32 0x3F800000#32)) lb)))
      (Host.divf (broadcastInDim S8192x1024 ![] bcast_S_S8192x1024 (constant S_ .f32 0x3F800000#32)) (addf (broadcastInDim S8192x1024 ![] bcast_S_S8192x1024 (constant S_ .f32 0x3F800000#32)) (Host.exp (Host.negf x)))))

theorem decay_apply (lb : FVec Ideal S1024 .f32) (x : FVec Ideal S8192x1024 .f32) (r : Fin 8192) (j : Fin 1024) :
    decay lb x (ix2 r j) = lb (ix1 j) + (1 - lb (ix1 j)) * Ideal.logistic (x (ix2 r j)) := by
  pointwise [decay]
  rfl

/-- The six spans of the projection, activated and side by side. -/
def spans (lb : FVec Ideal S1024 .f32) (v : FVec Ideal S8192x6144 .f32) : FVec Ideal S8192x6144 .f32 :=
  concatenate S8192x6144 1 [⟨S8192x1024, silu (extractStridedSlice S8192x1024 ![0, 0] v slices_S8192x6144_S8192x1024_0_0)⟩, ⟨S8192x1024, decay lb (extractStridedSlice S8192x1024 ![0, 1024] v slices_S8192x6144_S8192x1024_0_1024)⟩, ⟨S8192x1024, (extractStridedSlice S8192x1024 ![0, 2048] v slices_S8192x6144_S8192x1024_0_2048)⟩, ⟨S8192x1024, silu (extractStridedSlice S8192x1024 ![0, 3072] v slices_S8192x6144_S8192x1024_0_3072)⟩, ⟨S8192x1024, (extractStridedSlice S8192x1024 ![0, 4096] v slices_S8192x6144_S8192x1024_0_4096)⟩, ⟨S8192x1024, silu (extractStridedSlice S8192x1024 ![0, 5120] v slices_S8192x6144_S8192x1024_0_5120)⟩]
    concatenates_S8192x1024_S8192x1024_S8192x1024_S8192x1024_S8192x1024_S8192x1024_S8192x6144_d1

theorem spans_0 (lb : FVec Ideal S1024 .f32) (v : FVec Ideal S8192x6144 .f32) (r : Fin 8192) (j : Fin 1024) :
    spans lb v (ix2 r ⟨0 + j.val, by omega⟩) = v (ix2 r ⟨0 + j.val, by omega⟩) * Ideal.logistic (v (ix2 r ⟨0 + j.val, by omega⟩)) := by
  pointwise [spans]
  refine (silu_apply _ r _).trans ?_
  pointwise []

theorem spans_1 (lb : FVec Ideal S1024 .f32) (v : FVec Ideal S8192x6144 .f32) (r : Fin 8192) (j : Fin 1024) :
    spans lb v (ix2 r ⟨1024 + j.val, by omega⟩) = lb (ix1 j) + (1 - lb (ix1 j)) * Ideal.logistic (v (ix2 r ⟨1024 + j.val, by omega⟩)) := by
  pointwise [spans]
  refine (decay_apply lb _ r _).trans ?_
  pointwise []

theorem spans_2 (lb : FVec Ideal S1024 .f32) (v : FVec Ideal S8192x6144 .f32) (r : Fin 8192) (j : Fin 1024) :
    spans lb v (ix2 r ⟨2048 + j.val, by omega⟩) = v (ix2 r ⟨2048 + j.val, by omega⟩) := by
  pointwise [spans]
  rw [dif_neg (by omega), dif_neg (by omega), dif_pos (by omega)]
  have e : 2048 + j.val - 1024 - 1024 = j.val := by omega
  simp only [e]

theorem spans_3 (lb : FVec Ideal S1024 .f32) (v : FVec Ideal S8192x6144 .f32) (r : Fin 8192) (j : Fin 1024) :
    spans lb v (ix2 r ⟨3072 + j.val, by omega⟩) = v (ix2 r ⟨3072 + j.val, by omega⟩) * Ideal.logistic (v (ix2 r ⟨3072 + j.val, by omega⟩)) := by
  pointwise [spans]
  rw [dif_neg (by omega), dif_neg (by omega), dif_neg (by omega), dif_pos (by omega)]
  have e : 3072 + j.val - 1024 - 1024 - 1024 = j.val := by omega
  simp only [e]
  refine (silu_apply _ r _).trans ?_
  pointwise []

theorem spans_4 (lb : FVec Ideal S1024 .f32) (v : FVec Ideal S8192x6144 .f32) (r : Fin 8192) (j : Fin 1024) :
    spans lb v (ix2 r ⟨4096 + j.val, by omega⟩) = v (ix2 r ⟨4096 + j.val, by omega⟩) := by
  pointwise [spans]
  rw [dif_neg (by omega), dif_neg (by omega), dif_neg (by omega), dif_neg (by omega), dif_pos (by omega)]
  have e : 4096 + j.val - 1024 - 1024 - 1024 - 1024 = j.val := by omega
  simp only [e]

theorem spans_5 (lb : FVec Ideal S1024 .f32) (v : FVec Ideal S8192x6144 .f32) (r : Fin 8192) (j : Fin 1024) :
    spans lb v (ix2 r ⟨5120 + j.val, by omega⟩) = v (ix2 r ⟨5120 + j.val, by omega⟩) * Ideal.logistic (v (ix2 r ⟨5120 + j.val, by omega⟩)) := by
  pointwise [spans]
  rw [dif_neg (by omega), dif_neg (by omega), dif_neg (by omega), dif_neg (by omega), dif_neg (by omega)]
  have e : 5120 + j.val - 1024 - 1024 - 1024 - 1024 - 1024 = j.val := by omega
  simp only [e]
  refine (silu_apply _ r _).trans ?_
  pointwise []

theorem spans_apply (lb : FVec Ideal S1024 .f32) (v : FVec Ideal S8192x6144 .f32) (r : Fin 8192) (n : Fin 6144) :
    spans lb v (ix2 r n) = act (fun j => lb (ix1 j)) n.val (v (ix2 r n)) := by
  obtain ⟨q, j, hq⟩ : ∃ (q : Fin 6) (j : Fin 1024), n = ⟨1024 * q.val + j.val, by omega⟩ :=
    ⟨⟨n.val / 1024, by omega⟩, ⟨n.val % 1024, by omega⟩, Fin.ext (by show n.val = 1024 * (n.val / 1024) + n.val % 1024; omega)⟩
  subst hq
  fin_cases q
  · exact (spans_0 lb v r j).trans (act_silu _ _ _ (by show 1024 * 0 + j.val < 1024 ∨ (3072 ≤ 1024 * 0 + j.val ∧ 1024 * 0 + j.val < 4096) ∨ 5120 ≤ 1024 * 0 + j.val; omega)).symm
  · exact (spans_1 lb v r j).trans (act_gate (fun j => lb (ix1 j)) _ j _ (by show 1024 * 1 + j.val = 1024 + j.val; omega)).symm
  · exact (spans_2 lb v r j).trans (act_id _ _ _ (by show (2048 ≤ 1024 * 2 + j.val ∧ 1024 * 2 + j.val < 3072) ∨ (4096 ≤ 1024 * 2 + j.val ∧ 1024 * 2 + j.val < 5120); omega)).symm
  · exact (spans_3 lb v r j).trans (act_silu _ _ _ (by show 1024 * 3 + j.val < 1024 ∨ (3072 ≤ 1024 * 3 + j.val ∧ 1024 * 3 + j.val < 4096) ∨ 5120 ≤ 1024 * 3 + j.val; omega)).symm
  · exact (spans_4 lb v r j).trans (act_id _ _ _ (by show (2048 ≤ 1024 * 4 + j.val ∧ 1024 * 4 + j.val < 3072) ∨ (4096 ≤ 1024 * 4 + j.val ∧ 1024 * 4 + j.val < 5120); omega)).symm
  · exact (spans_5 lb v r j).trans (act_silu _ _ _ (by show 1024 * 5 + j.val < 1024 ∨ (3072 ≤ 1024 * 5 + j.val ∧ 1024 * 5 + j.val < 4096) ∨ 5120 ≤ 1024 * 5 + j.val; omega)).symm

variable (m : (ℓ : Loc nD τ sig) → Buf (Elt Ideal) ℓ) (c : Dev nD)

theorem value0 : Value.res_out0 m c = fun y => actAt (m ((c.tc : Thread nD τ).loc main_arg0)) (m ((c.tc : Thread nD τ).loc main_arg1)) (m ((c.tc : Thread nD τ).loc main_arg2)) (m ((c.tc : Thread nD τ).loc main_arg3)) (y 0) (y 1) := by
  have e : Value.res_out0 m c = spans (bound (soft (m ((c.tc : Thread nD τ).loc main_arg3)))) (proj (m ((c.tc : Thread nD τ).loc main_arg0)) (m ((c.tc : Thread nD τ).loc main_arg1)) (m ((c.tc : Thread nD τ).loc main_arg2))) := by
    unfold Value.res_out0 Value.res_main_v54 spans decay silu bound soft proj norm
    rfl
  rw [e]
  funext y
  obtain ⟨r, l, rfl⟩ : ∃ (r : Fin 8192) (l : Fin 6144), y = ix2 r l := ⟨y 0, y 1, by pointwise []⟩
  refine (spans_apply _ _ r l).trans ?_
  rw [proj_apply]
  simp only [bound_apply, soft_apply]
  rfl

theorem value1 (w : FVec Ideal S1x2048x2048 .f32) :
    (truncf .bf16 (shapeCast _ w shapeCasts_S1x2048x2048_S2048x2048) bitsLt_bf16_f32 : FVec Ideal S2048x2048 .bf16) = (fun y => w (ix3 0 (y 0) (y 1)) : S2048x2048.Idx → EReal) := by
  funext y
  obtain ⟨r, l, rfl⟩ : ∃ (r : Fin 2048) (l : Fin 2048), y = ix2 r l := ⟨y 0, y 1, by pointwise []⟩
  pointwise []

theorem value2 (w : FVec Ideal S2x256x2048 .f32) :
    (truncf .bf16 (shapeCast _ w shapeCasts_S2x256x2048_S512x2048) bitsLt_bf16_f32 : FVec Ideal S512x2048 .bf16) =
    (fun y => w (ix3 ⟨(y 0).val / 256, by have := (y 0).isLt; change _ < 512 at this; omega⟩ ⟨(y 0).val % 256, by omega⟩ (y 1)) : S512x2048.Idx → EReal) := by
  funext y
  obtain ⟨r, l, rfl⟩ : ∃ (r : Fin 512) (l : Fin 2048), y = ix2 r l := ⟨y 0, y 1, by pointwise []⟩
  pointwise []

end InEven.Ref

end
-- ==== Proof.InEvenClaims.lean ====
/- The claims about the even layer's input projection. -/
module

public import proofs.«01_k».proof.Defs
public import proofs.«01_k».proof.Proof.Gen.InEven
public import proofs.«01_k».proof.Proof.Gen.InEven.Frame
public import proofs.«01_k».proof.Proof.Gen.InEvenRefIdeal
public import proofs.«01_k».proof.Proof.InEvenKern
public import proofs.«01_k».proof.Proof.InEvenRef

@[expose] public section

set_option maxRecDepth 16384

noncomputable section

namespace InEven

open Idealize.ShloMosaic Idealize.SL.Sem

/-- The reference runs, keeps its arguments and leaves every counter at zero. -/
theorem frame_ref : Cert.quiescent_InEvenRefIdeal := fun m ρ _ =>
  (θ_run Cert.InEvenRefIdeal.defs _ _).mono
    (fun r h => ⟨fun c => (h c).2.2.2.2, sem_eq_zero_of_no_sems (by decide) r.2⟩) (Cert.InEvenRefIdeal.Value.run m ρ)

/-- Kernel and reference end with the same four arrays. -/
theorem algebraic : Cert.algebraic_InEvenIdeal_InEvenRefIdeal := by
  intro m ρ m' ρ' _ hagree
  refine ⟨fun c => outK m c, fun c => wK m c, fun c => pK m c, fun c => oK m c, ?_, ?_⟩
  · exact (θ_run _ _ _).mono (fun _ h c => ⟨(h c).1.trans (array7 m c), (h c).2.1.trans (array8 m c), (h c).2.2.1.trans (array9 m c), (h c).2.2.2.1.trans (array10 m c), (h c).2.2.2.2⟩)
      (Cert.InEvenIdeal.Value.run_blocks m ρ)
  · refine (θ_run _ _ _).mono (fun _ h c => ⟨(h c).1.trans ((Ref.value0 m' c).trans ?_), (h c).2.1.trans ((Ref.value1 _).trans ?_),
      (h c).2.2.1.trans ((Ref.value2 _).trans ?_), (h c).2.2.2.1.trans ((Ref.value1 _).trans ?_), (h c).2.2.2.2⟩)
      (Cert.InEvenRefIdeal.Value.run m' ρ')
    all_goals obtain ⟨h0, h1, h2, h3, h4, h5, h6⟩ := hagree c
    · unfold outK arg
      simp only [h0, h1, h2, h3]
      rfl
    · unfold wK arg
      simp only [h4]
    · unfold pK arg
      simp only [h5]
    · unfold oK arg
      simp only [h6]

end InEven

end
-- ==== Proof.InOddExact.lean ====
/- The odd projection at every point of its grid, and the launch. -/
module

public import proofs.«01_k».proof.Proof.Gen.InOddIdeal.Frame
public import proofs.«01_k».proof.Proof.Gen.InOddIdeal.Skeleton
public import proofs.«01_k».proof.Proof.Gen.InOddIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace InOdd.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InOddIdeal Cert.InOddIdeal.Gen

variable {F : FTy → Type} [FloatOps F]

local notation "𝕄" => MT nD τ sig Unit (Elt F) ℕ (UR sig nD τ) ℕ

/-! The grid has 8 row blocks and 4 column blocks, the column moving fastest. The body branches on the column
being the first, on the row block being the first of its sequence, and on the column not being the first. -/

/-- The column is the first. -/
abbrev first (i : grid0.Coords) : Prop := k0_cond1 i = 1#1
/-- The row block is the first of its sequence. -/
abbrev fresh (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- The column is not the first. -/
abbrev later (i : grid0.Coords) : Prop := k0_cond3 i = 1#1

theorem first_iff : ∀ t : Fin cfg0.N, first (grid0.coords t) ↔ t.val % 4 = 0 :=
  (by decide +kernel : ∀ t : Fin grid0.N, first (grid0.coords t) ↔ t.val % 4 = 0)
theorem later_iff : ∀ t : Fin cfg0.N, later (grid0.coords t) ↔ t.val % 4 ≠ 0 :=
  (by decide +kernel : ∀ t : Fin grid0.N, later (grid0.coords t) ↔ t.val % 4 ≠ 0)

/-- What the body leaves in the block of the projection: the rows against the tile's rows. -/
def uval (x0 : Vec F S1024x2048 .bf16) (x1 : Vec F S2048x2048 .bf16) : Vec F S1024x2048 .f32 :=
  k0_pay1 x0 x1

/-- A load of a whole buffer reads what it holds. -/
theorem load_whole {s : Shape} {e : EltTy} {sp : Space} (v : View sig .tc sp s e) {off : Fin s.rank → ℕ}
    (inb : ∀ a, off a + s.size a ≤ s.size a) (h : ∀ a, off a = 0) {f : v.ty.Contents (Elt F)} {x : s.Idx → Elt F e} (hf : v.read (Elt F) f = x) :
    v.readAt (Elt F) (Rect.unit off s.size inb).toLoadRect f = x :=
  (show v.readAt (Elt F) (Rect.unit off s.size inb).toLoadRect f = View.ld (v.read (Elt F) f) (Rect.unit off s.size inb) from rfl).trans
    (by rw [hf]; exact View.ld_unit_lit inb x h)

/-- One store of the whole block covers it. -/
theorem cover (p : Vec F S1024x2048 .f32) (y : S1024x2048.Idx) :
    ∃ pc ∈ ([⟨Rect.unit (s := S1024x2048) ![0, 0] S1024x2048.size inb_S1024x2048_S1024x2048_0_0, p⟩] : List (View.Piece (Elt F) S1024x2048 .f32)), y ∈ pc.1.set :=
  View.cover_of_tiled [⟨Rect.unit (s := S1024x2048) ![0, 0] S1024x2048.size inb_S1024x2048_S1024x2048_0_0, p⟩] S1024x2048.size (by rfl) y

set_option maxHeartbeats 8000000 in
/-- The body, whichever of its three courses it takes: the inputs stay, the projection's block is left at the product,
    the other outputs and the scratch at some contents. -/
theorem run (c : Dev nD) (i : grid0.Coords) (arg2 : Memref sig .tc .vmem S1024x2048 .bf16) (harg2 : arg2.IsWhole) (arg3 : Memref sig .tc .vmem S2048x2048 .bf16) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S8x128 .f32) (harg11 : arg11.IsWhole) (arg12 : Memref sig .tc .vmem S1x128x1024 .f32) (harg12 : arg12.IsWhole) (arg13 : Memref sig .tc .vmem S1x128 .f32) (harg13 : arg13.IsWhole) (hi : first i ∧ ¬later i ∨ ¬first i ∧ later i)
    (x0 : Vec F S1024x2048 .bf16) (x1 : Vec F S2048x2048 .bf16) (x2 : Vec F S256x2048 .bf16) (x3 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (uval x0 x1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_in_proj_gates i arg2 harg2 arg3 harg3 arg4 harg4 arg5 harg5 arg6 harg6 arg7 harg7 arg8 harg8 arg9 harg9 arg10 harg10 arg11 harg11 arg12 harg12 arg13 harg13) K := by
  simp only [cc0_in_proj_gates_eq_skeleton]; unfold cc0_in_proj_gates_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3
  rcases hi with ⟨h0, h2⟩ | ⟨h0, h2⟩
  on_goal 1 => rcases Classical.em (fresh i) with h1 | h1
  on_goal 1 => sl_exec (disch := first | sl_exact h0 | sl_exact h1 | sl_exact h2)
  on_goal 2 => sl_exec (disch := first | sl_exact h0 | sl_exact h1 | sl_exact h2)
  on_goal 3 => sl_exec (disch := first | sl_exact h0 | sl_exact h2)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (cover _)).trans ?_
      rw [View.canon_cons_unit_lit _ _ _ (by decide)]
      exact (congrArg₂ (fun a b => k0_pay1 a b) (load_whole _ _ (by decide) hf0) (load_whole _ _ (by decide) hf1)).trans rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

variable (m : (ℓ : Loc nD τ sig) → Buf (Elt F) ℓ) (ρ : Dev nD → PrngReg)

/-- The outputs about whose contents nothing is said: the gate terms, windows 5 to 10. -/
def unsaid : Fin 11 → Bool := fun w => w.val == 5 || w.val == 6 || w.val == 7 || w.val == 8 || w.val == 9 || w.val == 10

/-- The arrays as the region finds them; after each point the inputs' buffers at their blocks and the projection's at
    the product; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => uval (iblk m c 0 t) (iblk m c 1 t)
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = uval (iblk m c 0 t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The region's invariant: the scratch at some contents and the generator's register at some state. -/
theorem inv_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is handed at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d))

/-- What it hands back. -/
def taken (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (dats m 0 c).leavesExact 4 t ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d))

/-- The projection's block is stored at every point. -/
theorem live4 : ∀ t : Fin cfg0.N, cfg0.idle 4 (grid0.coords t) = false :=
  (by decide +kernel : ∀ t : Fin grid0.N, cfg0.idle 4 (grid0.coords t) = false)

set_option maxHeartbeats 4000000 in
/-- The body at any point, on the blocks of that point. -/
theorem body (c : Dev nD) (t : Fin cfg0.N) :
    given m c t ⊢ wp frame (wpE (defs₀ (F := F)) Variants.none c none) Set.univ (bodyAt0 t) (fun _ => taken m c t) := by
  unfold given taken bodyAt0
  rw [show (dats m 0 c).leavesExact 4 t = owns (c : Thread nD τ) (st0_4 t) fullShare ((dats m 0 c).after 4 t) from by
    unfold Dat.leavesExact; rw [live4 t]]
  simp only [before0, before1, before2, before3, after0, after1, after2, after3, after4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, H5, H6, H7, H8, H9, H10⟩
  iapply (run c (grid0.coords t) _ _ _ _ _ _ _ _ _ _ _ _ _ _ _ _ _ _ _ _ _ _ _ _ (by rw [first_iff, later_iff]; exact (Classical.em _).imp (fun h => ⟨h, not_not.mpr h⟩) fun h => ⟨h, h⟩) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row (t : Fin cfg0.N) : defs₀ (F := F) .tc cfg0.body (cfg0.bodyArgs t (cfg0.slots t)) = bodyAt0 t := by
  unfold defs₀; rw [Defs.onTc_tc]

/-- The pipeline's obligation of the body, at every point. -/
theorem obligation (c : Dev nD) : BodyObligation (dats (F := F) m 0 c) (defs₀ (F := F)) Variants.none () Set.univ unsaid := fun t => by
  rw [bigSep_W0, bigSep_W0, row]
  exact triple_restated (body m c t) rfl .rfl fun _ => .rfl

set_option backward.isDefEq.respectTransparency.types false in
/-- The launch: the arrays end as the data says, and every semaphore counter at zero. -/
theorem launch : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- The argument arrays at the end of the region are as launched. -/
theorem kept {r : PUnit × MemSt nD τ sig (Elt F)}
    (h : Pipeline.RDat.FramePost (cfgs 0) (fun c => (dats m 0 c).toRForget unsaid) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The program runs, keeps its arguments and leaves every counter at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (launch m ρ)

/-- The program runs to the projection's array written block by block, the arguments kept. -/
theorem ends : θ_run defs (onTc (τ := τ) (main (F := F))) ⟨m, fun _ => 0, ρ⟩ (fun r => ∀ c : Dev nD,
      r.2.mem ((c.tc : Thread nD τ).loc main_v19_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((dats m 0 c).toRForget_arrAt_iff (fgt := unsaid) (w := 4) rfl cfg0.N _).mp ((h.1 c).1 4), kept m h.1 c⟩)
    (launch m ρ)

end InOdd.Exact

end
-- ==== Proof.InOddKern.lean ====
/- The odd layer's input projection: the kernel's result array is the product in closed form. -/
module

public import proofs.«01_k».proof.Proof.InOddExact
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace InOdd

open Idealize.ShloMosaic Idealize.ShloMosaic.TcCoe Idealize.SL.Sem Idealize.ShloMosaic.Tactic
open Cert.InOddIdeal Cert.InOddIdeal.Gen InOdd.Exact
open Idealize.ShloMosaic.Pipeline (Dat)

variable (m : (ℓ : Loc nD τ sig) → Buf (Elt Ideal) ℓ)

/-- Argument `r` as launched. -/
abbrev arg (c : Dev nD) (r : Ref sig .tc) := m ((c : Thread nD τ).loc r)

theorem idx : ∀ t : Fin cfg0.N, win0_0.index t = ![t.val / 4, 0] ∧ win0_1.index t = ![t.val % 4, 0] ∧ win0_4.index t = ![t.val / 4, t.val % 4] :=
  (by decide +kernel : ∀ t : Fin grid0.N, win0_0.index t = ![t.val / 4, 0] ∧ win0_1.index t = ![t.val % 4, 0] ∧ win0_4.index t = ![t.val / 4, t.val % 4])

variable (c : Dev nD) (t : Fin cfg0.N)

theorem lt32 : t.val < 32 := t.isLt

/-- The array row of a block row. -/
def rowOf (r : Fin 1024) : Fin 8192 := ⟨1024 * (t.val / 4) + r.val, by have := lt32 t; omega⟩
/-- The array column of a block column. -/
def colOf (l : Fin 2048) : Fin 8192 := ⟨2048 * (t.val % 4) + l.val, by omega⟩

theorem blk0 (r : Fin 1024) (k : Fin 2048) : iblk m c 0 t (ix2 r k) = arg m c main_arg0 (ix2 (rowOf t r) k) := by
  blk_ext [iblk, V, idx t, rowOf]

/-- The weights as the launch finds them. -/
theorem wide_eq : V m c main_v18 = (truncf .bf16 (extractStridedSlice S8192x2048 ![0, 0] (transpose S8208x2048 [1, 0] (shapeCast _ (arg m c main_arg1) shapeCasts_S1x2048x8208_S2048x8208) transposes_S2048x8208_S8208x2048_1_0) slices_S8208x2048_S8192x2048_0_0) bitsLt_bf16_f32 : FVec Ideal S8192x2048 .bf16) := by
  unfold V
  simp only [List.flatten_cons, List.flatten_nil, List.cons_append, List.nil_append, List.append_nil]
  after_results <;> rfl

theorem wide_apply (a1 : (⟨S1x2048x8208, .f32⟩ : BufTy).Contents (Elt Ideal)) (n : Fin 8192) (k : Fin 2048) :
    (truncf .bf16 (extractStridedSlice S8192x2048 ![0, 0] (transpose S8208x2048 [1, 0] (shapeCast S2048x8208 a1 shapeCasts_S1x2048x8208_S2048x8208) transposes_S2048x8208_S8208x2048_1_0) slices_S8208x2048_S8192x2048_0_0) bitsLt_bf16_f32 : FVec Ideal S8192x2048 .bf16) (ix2 n k) = a1 (ix3 0 k ⟨n.val, by omega⟩) := by
  pointwise []

theorem blk1 (l : Fin 2048) (k : Fin 2048) : iblk m c 1 t (ix2 l k) = arg m c main_arg1 (ix3 0 k ⟨(colOf t l).val, by omega⟩) := by
  refine (?_ : _ = V m c main_v18 (ix2 (colOf t l) k)).trans ?_
  · blk_ext [iblk, idx t, colOf]
  · exact (congrFun (wide_eq m c) _).trans (wide_apply _ _ k)

/-- An entry of the block product. -/
theorem uval_apply (x0 : FVec Ideal S1024x2048 .bf16) (x1 : FVec Ideal S2048x2048 .bf16) (r : Fin 1024) (l : Fin 2048) :
    uval (F := Ideal) x0 x1 (ix2 r l) = ∑ k : Fin 2048, x0 (ix2 r k) * x1 (ix2 l k) := by
  unfold uval k0_pay1
  pointwise []

/-- An entry of the product of all rows with the first 8192 columns of the weights. -/
def mulAt (a0 : (⟨S8192x2048, .bf16⟩ : BufTy).Contents (Elt Ideal)) (a1 : (⟨S1x2048x8208, .f32⟩ : BufTy).Contents (Elt Ideal)) (r n : Fin 8192) : EReal :=
  ∑ k : Fin 2048, a0 (ix2 r k) * a1 (ix3 0 k ⟨n.val, by omega⟩)

/-- The result as the closed form. -/
def outK : S8192x8192.Idx → EReal := fun y => mulAt (arg m c main_arg0) (arg m c main_arg1) (y 0) (y 1)

theorem point4 (r : Fin 1024) (l : Fin 2048) : uval (F := Ideal) (iblk m c 0 t) (iblk m c 1 t) (ix2 r l) = outK m c (ix2 (rowOf t r) (colOf t l)) := by
  refine (uval_apply _ _ r l).trans ?_
  simp only [blk0, blk1]
  rfl

theorem array4 : (dats m 0 c).arrAt 4 cfg0.N = outK m c := by
  refine (dats m 0 c).arrAt_eq_of_covers 4 _ (by decide +kernel) fun t hf y => ?_
  blk_simp
  rw [after4]
  obtain ⟨r, l, rfl⟩ : ∃ (r : Fin 1024) (l : Fin 2048), y = ix2 r l := ⟨y 0, y 1, by pointwise []⟩
  refine (point4 m c t r l).trans (congrArg (outK m c) ?_)
  blk_ext [idx t, rowOf, colOf]

end InOdd

end
-- ==== Proof.InOddRef.lean ====
/- The odd layer's input projection: the reference's result is the same product. -/
module

public import proofs.«01_k».proof.Proof.InOddKern
public import proofs.«01_k».proof.Proof.Gen.InOddRefIdeal.Run
public import Idealize.ShloMosaic.Lib.Pointwise

@[expose] public section

set_option maxRecDepth 16384

noncomputable section

namespace InOdd.Ref

open Idealize.ShloMosaic Idealize.ShloMosaic.TcCoe Idealize.SL.Sem Idealize.ShloMosaic.Tactic Idealize.ShloMosaic.StableHlo
open Cert.InOddRefIdeal Cert.InOddRefIdeal.Gen

theorem value (a0 : FVec Ideal S8192x2048 .bf16) (a1 : FVec Ideal S1x2048x8208 .f32) :
    (Host.dotGeneral dot_S8192x2048_S2048x8192_S8192x8192_1_0_0_1_n_n none (extf .f32 a0 bitsLt_bf16_f32)
      (extractStridedSlice S2048x8192 ![0, 0] (shapeCast _ a1 shapeCasts_S1x2048x8208_S2048x8208) slices_S2048x8208_S2048x8192_0_0) : FVec Ideal S8192x8192 .f32) =
    (fun y => mulAt a0 a1 (y 0) (y 1) : S8192x8192.Idx → EReal) := by
  funext y
  obtain ⟨r, n, rfl⟩ : ∃ (r : Fin 8192) (n : Fin 8192), y = ix2 r n := ⟨y 0, y 1, by pointwise []⟩
  refine (?_ : _ = ∑ k : Fin 2048, a0 (ix2 r k) * a1 (ix3 0 k ⟨n.val, by omega⟩))
  pointwise []

end InOdd.Ref

end
-- ==== Proof.InOddClaims.lean ====
/- The claims about the odd layer's input projection. -/
module

public import proofs.«01_k».proof.Defs
public import proofs.«01_k».proof.Proof.Gen.InOdd
public import proofs.«01_k».proof.Proof.Gen.InOddRefIdeal
public import proofs.«01_k».proof.Proof.InOddWord
public import proofs.«01_k».proof.Proof.InOddRef

@[expose] public section

set_option maxRecDepth 16384

noncomputable section

namespace InOdd

open Idealize.ShloMosaic Idealize.SL.Sem

/-- The reference runs, keeps its arguments and leaves every counter at zero. -/
theorem frame_ref : Cert.quiescent_InOddRefIdeal := fun m ρ _ =>
  (θ_run Cert.InOddRefIdeal.defs _ _).mono
    (fun r h => ⟨fun c => (h c).2, sem_eq_zero_of_no_sems (by decide) r.2⟩) (Cert.InOddRefIdeal.Value.run m ρ)

/-- Kernel and reference end with the same product. -/
theorem algebraic : Cert.algebraic_InOddIdeal_InOddRefIdeal := by
  intro m ρ m' ρ' _ hagree
  refine ⟨fun c => outK m c, ?_, ?_⟩
  · exact (θ_run _ _ _).mono (fun _ h c => ⟨(h c).1.trans (array4 m c), (h c).2⟩) (Exact.ends m ρ)
  · refine (θ_run _ _ _).mono (fun _ h c => ⟨(h c).1.trans ((Ref.value _ _).trans ?_), (h c).2⟩) (Cert.InOddRefIdeal.Value.run m' ρ')
    obtain ⟨h0, h1, h2, h3⟩ := hagree c
    unfold outK arg
    simp only [h0, h1]

end InOdd

end
-- ==== Proof.lean ====
module

public import proofs.«01_k».proof.Defs
public import proofs.«01_k».proof.Proof.Gen.Rglru
public import proofs.«01_k».proof.Proof.Gen.Rglru.Frame
public import proofs.«01_k».proof.Proof.Gen.RglruIdeal
public import proofs.«01_k».proof.Proof.Gen.RglruIdeal.Value
public import proofs.«01_k».proof.Proof.Gen.RglruRefIdeal
public import proofs.«01_k».proof.Proof.Gen.RglruRefIdeal.Run
public import proofs.«01_k».proof.Proof.Gen.RglruRefIdeal.Step
public import proofs.«01_k».proof.Proof.RglruClaims
public import proofs.«01_k».proof.Proof.Gen.OutFinal
public import proofs.«01_k».proof.Proof.Gen.OutFinal.Frame
public import proofs.«01_k».proof.Proof.Gen.OutFinalIdeal
public import proofs.«01_k».proof.Proof.Gen.OutFinalIdeal.Value
public import proofs.«01_k».proof.Proof.Gen.OutFinalRefIdeal
public import proofs.«01_k».proof.Proof.Gen.OutFinalRefIdeal.Run
public import proofs.«01_k».proof.Proof.FinalClaims
public import proofs.«01_k».proof.Proof.Gen.OutEven
public import proofs.«01_k».proof.Proof.Gen.OutEven.Frame
public import proofs.«01_k».proof.Proof.Gen.OutEvenIdeal
public import proofs.«01_k».proof.Proof.Gen.OutEvenIdeal.Value
public import proofs.«01_k».proof.Proof.Gen.OutEvenRefIdeal
public import proofs.«01_k».proof.Proof.Gen.OutEvenRefIdeal.Run
public import proofs.«01_k».proof.Proof.EvenClaims
public import proofs.«01_k».proof.Proof.Gen.InEven
public import proofs.«01_k».proof.Proof.Gen.InEven.Frame
public import proofs.«01_k».proof.Proof.Gen.InEvenIdeal
public import proofs.«01_k».proof.Proof.Gen.InEvenIdeal.Value
public import proofs.«01_k».proof.Proof.Gen.InEvenRefIdeal
public import proofs.«01_k».proof.Proof.Gen.InEvenRefIdeal.Run
public import proofs.«01_k».proof.Proof.InEvenClaims
public import proofs.«01_k».proof.Proof.Gen.InOdd
public import proofs.«01_k».proof.Proof.Gen.InOdd.Frame
public import proofs.«01_k».proof.Proof.Gen.InOddIdeal
public import proofs.«01_k».proof.Proof.Gen.InOddRefIdeal
public import proofs.«01_k».proof.Proof.Gen.InOddRefIdeal.Run
public import proofs.«01_k».proof.Proof.InOddClaims
public import Idealize.ShloMosaic.Adequacy
public import Idealize.ShloMosaic.Init

@[expose] public section

noncomputable section

namespace Cert.Proof

open Idealize.ShloMosaic Idealize.SL.Sem Cert.Rglru

theorem claim : Cert.Claim := ⟨Cert.Rglru.Gen.facts, Cert.RglruIdeal.Gen.facts, Cert.RglruRefIdeal.Gen.facts, Cert.OutFinal.Gen.facts, Cert.OutFinalIdeal.Gen.facts, Cert.OutFinalRefIdeal.Gen.facts, Cert.OutEven.Gen.facts, Cert.OutEvenIdeal.Gen.facts, Cert.OutEvenRefIdeal.Gen.facts, Cert.InEven.Gen.facts, Cert.InEvenIdeal.Gen.facts, Cert.InEvenRefIdeal.Gen.facts, Cert.InOdd.Gen.facts, Cert.InOddIdeal.Gen.facts, Cert.InOddRefIdeal.Gen.facts,
  fun m ρ _ => Cert.Rglru.Gen.frame m ρ, fun m ρ _ => Cert.RglruIdeal.Gen.frame m ρ, Rglru.frame_ref, fun m ρ _ => Cert.OutFinal.Gen.frame m ρ, fun m ρ _ => Cert.OutFinalIdeal.Gen.frame m ρ, Final.frame_ref, fun m ρ _ => Cert.OutEven.Gen.frame m ρ, fun m ρ _ => Cert.OutEvenIdeal.Gen.frame m ρ, Even.frame_ref, fun m ρ _ => Cert.InEven.Gen.frame m ρ, fun m ρ _ => Cert.InEvenIdeal.Gen.frame m ρ, InEven.frame_ref, fun m ρ _ => InOdd.Word.keeps m ρ, fun m ρ _ => InOdd.Exact.keeps m ρ, InOdd.frame_ref,
  trivial, Rglru.algebraic, trivial, Final.algebraic, trivial, Even.algebraic, trivial, InEven.algebraic, trivial, InOdd.algebraic⟩

end Cert.Proof

end
